-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x32x32x32 : Shape := ⟨5, ![4, 256, 32, 32, 32]⟩
abbrev S4x256x32x8x128 : Shape := ⟨5, ![4, 256, 32, 8, 128]⟩
abbrev S4x8x32 : Shape := ⟨3, ![4, 8, 32]⟩
abbrev S2x32x32x8x128 : Shape := ⟨5, ![2, 32, 32, 8, 128]⟩
abbrev S6x2 : Shape := ⟨2, ![6, 2]⟩
abbrev S1x1 : Shape := ⟨2, ![1, 1]⟩
abbrev S_ : Shape := ⟨0, ![]⟩
abbrev S1x16x32x8x128 : Shape := ⟨5, ![1, 16, 32, 8, 128]⟩
abbrev S16x32x8x128 : Shape := ⟨4, ![16, 32, 8, 128]⟩
abbrev S1x32x32x8x128 : Shape := ⟨5, ![1, 32, 32, 8, 128]⟩
abbrev S32x32x8x128 : Shape := ⟨4, ![32, 32, 8, 128]⟩
abbrev S32x16x8x128 : Shape := ⟨4, ![32, 16, 8, 128]⟩
abbrev S8x128 : Shape := ⟨2, ![8, 128]⟩
abbrev S1x1x8x128 : Shape := ⟨4, ![1, 1, 8, 128]⟩
abbrev S32 : Shape := ⟨1, ![32]⟩
abbrev S1x1x32 : Shape := ⟨3, ![1, 1, 32]⟩
abbrev S4 : Shape := ⟨1, ![4]⟩
abbrev S4x1x1 : Shape := ⟨3, ![4, 1, 1]⟩
abbrev S4x256 : Shape := ⟨2, ![4, 256]⟩

abbrev nBuf : Space → Nat
  | .hbm => 8
  | .vmem => 4
  | .smem => 0
  | _ => 0

abbrev bufTy : (tb : Table) → Fin (tcTables nBuf tb) → BufTy
  | .hbm, ⟨0, _⟩ => ⟨S4x256x32x32x32, .f32⟩
  | .hbm, ⟨1, _⟩ => ⟨S4x256x32x32x32, .f32⟩
  | .hbm, ⟨2, _⟩ => ⟨S4x256x32x32x32, .f32⟩
  | .hbm, ⟨3, _⟩ => ⟨S4x256x32x8x128, .f32⟩
  | .hbm, ⟨4, _⟩ => ⟨S4x256x32x8x128, .f32⟩
  | .hbm, ⟨5, _⟩ => ⟨S4x256x32x8x128, .f32⟩
  | .hbm, ⟨6, _⟩ => ⟨S4x8x32, .f32⟩
  | .hbm, ⟨7, _⟩ => ⟨S4x256, .f32⟩
  | .local _ .vmem, ⟨0, _⟩ => ⟨S4x8x32, .f32⟩
  | .local _ .vmem, ⟨1, _⟩ => ⟨S2x32x32x8x128, .f32⟩
  | .local _ .vmem, ⟨2, _⟩ => ⟨S2x32x32x8x128, .f32⟩
  | .local _ .vmem, ⟨3, _⟩ => ⟨S2x32x32x8x128, .f32⟩
  | _, _ => ⟨S4x256x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_65 : BitVec 32 := 0#32
  let c32_i32 : BitVec 32 := 32#32
  let v36 : BitVec 32 := Scalar.addi c0_i32_65 c32_i32
  let c1_i32_66 : BitVec 32 := 1#32
  ⟨c0_i32_65, v36, c1_i32_66⟩
def k0_cond1 (k0_t1 : Fin k0_t1_loop.trips) : BitVec 1 :=
  let c0_i32_65 : BitVec 32 := 0#32
  let c1_i32_66 : BitVec 32 := 1#32
  let arg8 : BitVec 32 := Scf.iv c0_i32_65 c1_i32_66 k0_t1
  let c31_i32 : BitVec 32 := 31#32
  let v51 : BitVec 1 := Scalar.cmpi .slt arg8 c31_i32
  let v52 : BitVec 32 := Scalar.extui v51
  let c0_i32_76 : BitVec 32 := 0#32
  let v53 : BitVec 1 := Scalar.cmpi .ne v52 c0_i32_76
  v53

def k0_off1 (k0_t1 : Fin k0_t1_loop.trips) : Fin 2 → Nat :=
  let c0_i32_291 : BitVec 32 := 0#32
  let c1_i32_265 : BitVec 32 := 1#32
  let c0_i32_65 : BitVec 32 := 0#32
  let c1_i32_66 : BitVec 32 := 1#32
  let arg8 : BitVec 32 := Scf.iv c0_i32_65 c1_i32_66 k0_t1
  let c2_i32_75 : BitVec 32 := 2#32
  let v50 : BitVec 32 := Scalar.remsi arg8 c2_i32_75
  let v343 : BitVec 32 := Scalar.subi c1_i32_265 v50
  ![0, v343.toNat]
def k0_off2 (k0_t1 : Fin k0_t1_loop.trips) : Fin 5 → Nat :=
  let c1_i32_265 : BitVec 32 := 1#32
  let c0_i32_65 : BitVec 32 := 0#32
  let c1_i32_66 : BitVec 32 := 1#32
  let arg8 : BitVec 32 := Scf.iv c0_i32_65 c1_i32_66 k0_t1
  let c2_i32_75 : BitVec 32 := 2#32
  let v50 : BitVec 32 := Scalar.remsi arg8 c2_i32_75
  let v343 : BitVec 32 := Scalar.subi c1_i32_265 v50
  let c0_i32_292 : BitVec 32 := 0#32
  let c0_i32_293 : BitVec 32 := 0#32
  let c0_i32_294 : BitVec 32 := 0#32
  let c0_i32_295 : BitVec 32 := 0#32
  ![v343.toNat, 0, 0, 0, 0]
def k0_off3 (k0_t1 : Fin k0_t1_loop.trips) (c0_i32_280 : BitVec 32) : Fin 5 → Nat :=
  let c0_i32_65 : BitVec 32 := 0#32
  let c1_i32_66 : BitVec 32 := 1#32
  let arg8 : BitVec 32 := Scf.iv c0_i32_65 c1_i32_66 k0_t1
  let c1_i32_264 : BitVec 32 := 1#32
  let v342 : BitVec 32 := Scalar.addi arg8 c1_i32_264
  let c0_i32_267 : BitVec 32 := 0#32
  let v345 : BitVec 1 := Scalar.cmpi .sgt v342 c0_i32_267
  let v346 : BitVec 32 := Scalar.extui v345
  let c0_i32_268 : BitVec 32 := 0#32
  let v347 : BitVec 1 := Scalar.cmpi .slt v342 c0_i32_268
  let v348 : BitVec 32 := Scalar.extui v347
  let v349 : BitVec 32 := Scalar.subi v346 v348
  let c8_i32_266 : BitVec 32 := 8#32
  let c0_i32_269 : BitVec 32 := 0#32
  let v350 : BitVec 1 := Scalar.cmpi .sgt c8_i32_266 c0_i32_269
  let v351 : BitVec 32 := Scalar.extui v350
  let c0_i32_270 : BitVec 32 := 0#32
  let v352 : BitVec 1 := Scalar.cmpi .slt c8_i32_266 c0_i32_270
  let v353 : BitVec 32 := Scalar.extui v352
  let v354 : BitVec 32 := Scalar.subi v351 v353
  let v355 : BitVec 1 := Scalar.cmpi .ne v349 v354
  let v356 : BitVec 32 := Scalar.remsi v342 c8_i32_266
  let c0_i32_271 : BitVec 32 := 0#32
  let v357 : BitVec 1 := Scalar.cmpi .ne v356 c0_i32_271
  let v358 : BitVec 1 := Scalar.andi v355 v357
  let v344 : BitVec 32 := Scalar.divsi v342 c8_i32_266
  let c1_i32_272 : BitVec 32 := 1#32
  let v359 : BitVec 32 := Scalar.subi v344 c1_i32_272
  let v360 : BitVec 32 := Scalar.select v358 v359 v344
  let c8_i32_273 : BitVec 32 := 8#32
  let c0_i32_274 : BitVec 32 := 0#32
  let v361 : BitVec 1 := Scalar.cmpi .eq c8_i32_273 c0_i32_274
  let c1_i32_275 : BitVec 32 := 1#32
  let v362 : BitVec 32 := Scalar.select v361 c1_i32_275 c8_i32_273
  let v363 : BitVec 32 := Scalar.remsi v342 v362
  let c0_i32_277 : BitVec 32 := 0#32
  let v365 : BitVec 1 := Scalar.cmpi .slt v363 c0_i32_277
  let c0_i32_278 : BitVec 32 := 0#32
  let v366 : BitVec 1 := Scalar.cmpi .slt v362 c0_i32_278
  let v367 : BitVec 1 := Scalar.xori v365 v366
  let c0_i32_276 : BitVec 32 := 0#32
  let v364 : BitVec 1 := Scalar.cmpi .ne v363 c0_i32_276
  let v368 : BitVec 1 := Scalar.andi v367 v364
  let v369 : BitVec 32 := Scalar.addi v363 v362
  let v370 : BitVec 32 := Scalar.select v368 v369 v363
  let c32_i32_279 : BitVec 32 := 32#32
  let v371 : BitVec 32 := Scalar.muli v370 c32_i32_279
  let v372 : BitVec 32 := Scalar.addi v371 c0_i32_280
  let c0_i32_296 : BitVec 32 := 0#32
  let c0_i32_297 : BitVec 32 := 0#32
  let c0_i32_298 : BitVec 32 := 0#32
  ![v360.toNat, v372.toNat, 0, 0, 0]
def k0_off4 (k0_t1 : Fin k0_t1_loop.trips) : Fin 2 → Nat :=
  let c1_i32_299 : BitVec 32 := 1#32
  let c1_i32_265 : BitVec 32 := 1#32
  let c0_i32_65 : BitVec 32 := 0#32
  let c1_i32_66 : BitVec 32 := 1#32
  let arg8 : BitVec 32 := Scf.iv c0_i32_65 c1_i32_66 k0_t1
  let c2_i32_75 : BitVec 32 := 2#32
  let v50 : BitVec 32 := Scalar.remsi arg8 c2_i32_75
  let v343 : BitVec 32 := Scalar.subi c1_i32_265 v50
  ![1, v343.toNat]
def k0_off5 (k0_t1 : Fin k0_t1_loop.trips) : Fin 5 → Nat :=
  let c1_i32_265 : BitVec 32 := 1#32
  let c0_i32_65 : BitVec 32 := 0#32
  let c1_i32_66 : BitVec 32 := 1#32
  let arg8 : BitVec 32 := Scf.iv c0_i32_65 c1_i32_66 k0_t1
  let c2_i32_75 : BitVec 32 := 2#32
  let v50 : BitVec 32 := Scalar.remsi arg8 c2_i32_75
  let v343 : BitVec 32 := Scalar.subi c1_i32_265 v50
  let c16_i32_300 : BitVec 32 := 16#32
  let c0_i32_301 : BitVec 32 := 0#32
  let c0_i32_302 : BitVec 32 := 0#32
  let c0_i32_303 : BitVec 32 := 0#32
  ![v343.toNat, 16, 0, 0, 0]
def k0_off6 (k0_t1 : Fin k0_t1_loop.trips) : Fin 2 → Nat :=
  let c2_i32_307 : BitVec 32 := 2#32
  let c1_i32_265 : BitVec 32 := 1#32
  let c0_i32_65 : BitVec 32 := 0#32
  let c1_i32_66 : BitVec 32 := 1#32
  let arg8 : BitVec 32 := Scf.iv c0_i32_65 c1_i32_66 k0_t1
  let c2_i32_75 : BitVec 32 := 2#32
  let v50 : BitVec 32 := Scalar.remsi arg8 c2_i32_75
  let v343 : BitVec 32 := Scalar.subi c1_i32_265 v50
  ![2, v343.toNat]
def k0_off7 (k0_t1 : Fin k0_t1_loop.trips) : Fin 2 → Nat :=
  let c3_i32_315 : BitVec 32 := 3#32
  let c1_i32_265 : BitVec 32 := 1#32
  let c0_i32_65 : BitVec 32 := 0#32
  let c1_i32_66 : BitVec 32 := 1#32
  let arg8 : BitVec 32 := Scf.iv c0_i32_65 c1_i32_66 k0_t1
  let c2_i32_75 : BitVec 32 := 2#32
  let v50 : BitVec 32 := Scalar.remsi arg8 c2_i32_75
  let v343 : BitVec 32 := Scalar.subi c1_i32_265 v50
  ![3, v343.toNat]
def k0_off8 (k0_t1 : Fin k0_t1_loop.trips) : Fin 2 → Nat :=
  let c4_i32_323 : BitVec 32 := 4#32
  let c1_i32_265 : BitVec 32 := 1#32
  let c0_i32_65 : BitVec 32 := 0#32
  let c1_i32_66 : BitVec 32 := 1#32
  let arg8 : BitVec 32 := Scf.iv c0_i32_65 c1_i32_66 k0_t1
  let c2_i32_75 : BitVec 32 := 2#32
  let v50 : BitVec 32 := Scalar.remsi arg8 c2_i32_75
  let v343 : BitVec 32 := Scalar.subi c1_i32_265 v50
  ![4, v343.toNat]
def k0_off9 (k0_t1 : Fin k0_t1_loop.trips) : Fin 2 → Nat :=
  let c5_i32_331 : BitVec 32 := 5#32
  let c1_i32_265 : BitVec 32 := 1#32
  let c0_i32_65 : BitVec 32 := 0#32
  let c1_i32_66 : BitVec 32 := 1#32
  let arg8 : BitVec 32 := Scf.iv c0_i32_65 c1_i32_66 k0_t1
  let c2_i32_75 : BitVec 32 := 2#32
  let v50 : BitVec 32 := Scalar.remsi arg8 c2_i32_75
  let v343 : BitVec 32 := Scalar.subi c1_i32_265 v50
  ![5, v343.toNat]
def k0_off10 (k0_t1 : Fin k0_t1_loop.trips) : Fin 2 → Nat :=
  let c0_i32_101 : BitVec 32 := 0#32
  let c0_i32_65 : BitVec 32 := 0#32
  let c1_i32_66 : BitVec 32 := 1#32
  let arg8 : BitVec 32 := Scf.iv c0_i32_65 c1_i32_66 k0_t1
  let c2_i32_75 : BitVec 32 := 2#32
  let v50 : BitVec 32 := Scalar.remsi arg8 c2_i32_75
  ![0, v50.toNat]
def k0_off11 (k0_t1 : Fin k0_t1_loop.trips) : Fin 5 → Nat :=
  let c0_i32_65 : BitVec 32 := 0#32
  let c1_i32_66 : BitVec 32 := 1#32
  let arg8 : BitVec 32 := Scf.iv c0_i32_65 c1_i32_66 k0_t1
  let c2_i32_75 : BitVec 32 := 2#32
  let v50 : BitVec 32 := Scalar.remsi arg8 c2_i32_75
  let c0_i32_102 : BitVec 32 := 0#32
  let c0_i32_103 : BitVec 32 := 0#32
  let c0_i32_104 : BitVec 32 := 0#32
  let c0_i32_105 : BitVec 32 := 0#32
  ![v50.toNat, 0, 0, 0, 0]
def k0_off12 (k0_t1 : Fin k0_t1_loop.trips) (c0_i32_90 : BitVec 32) : Fin 5 → Nat :=
  let c0_i32_65 : BitVec 32 := 0#32
  let c1_i32_66 : BitVec 32 := 1#32
  let arg8 : BitVec 32 := Scf.iv c0_i32_65 c1_i32_66 k0_t1
  let c0_i32_77 : BitVec 32 := 0#32
  let v55 : BitVec 1 := Scalar.cmpi .sgt arg8 c0_i32_77
  let v56 : BitVec 32 := Scalar.extui v55
  let c0_i32_78 : BitVec 32 := 0#32
  let v57 : BitVec 1 := Scalar.cmpi .slt arg8 c0_i32_78
  let v58 : BitVec 32 := Scalar.extui v57
  let v59 : BitVec 32 := Scalar.subi v56 v58
  let c8_i32 : BitVec 32 := 8#32
  let c0_i32_79 : BitVec 32 := 0#32
  let v60 : BitVec 1 := Scalar.cmpi .sgt c8_i32 c0_i32_79
  let v61 : BitVec 32 := Scalar.extui v60
  let c0_i32_80 : BitVec 32 := 0#32
  let v62 : BitVec 1 := Scalar.cmpi .slt c8_i32 c0_i32_80
  let v63 : BitVec 32 := Scalar.extui v62
  let v64 : BitVec 32 := Scalar.subi v61 v63
  let v65 : BitVec 1 := Scalar.cmpi .ne v59 v64
  let v66 : BitVec 32 := Scalar.remsi arg8 c8_i32
  let c0_i32_81 : BitVec 32 := 0#32
  let v67 : BitVec 1 := Scalar.cmpi .ne v66 c0_i32_81
  let v68 : BitVec 1 := Scalar.andi v65 v67
  let v54 : BitVec 32 := Scalar.divsi arg8 c8_i32
  let c1_i32_82 : BitVec 32 := 1#32
  let v69 : BitVec 32 := Scalar.subi v54 c1_i32_82
  let v70 : BitVec 32 := Scalar.select v68 v69 v54
  let c8_i32_83 : BitVec 32 := 8#32
  let c0_i32_84 : BitVec 32 := 0#32
  let v71 : BitVec 1 := Scalar.cmpi .eq c8_i32_83 c0_i32_84
  let c1_i32_85 : BitVec 32 := 1#32
  let v72 : BitVec 32 := Scalar.select v71 c1_i32_85 c8_i32_83
  let v73 : BitVec 32 := Scalar.remsi arg8 v72
  let c0_i32_87 : BitVec 32 := 0#32
  let v75 : BitVec 1 := Scalar.cmpi .slt v73 c0_i32_87
  let c0_i32_88 : BitVec 32 := 0#32
  let v76 : BitVec 1 := Scalar.cmpi .slt v72 c0_i32_88
  let v77 : BitVec 1 := Scalar.xori v75 v76
  let c0_i32_86 : BitVec 32 := 0#32
  let v74 : BitVec 1 := Scalar.cmpi .ne v73 c0_i32_86
  let v78 : BitVec 1 := Scalar.andi v77 v74
  let v79 : BitVec 32 := Scalar.addi v73 v72
  let v80 : BitVec 32 := Scalar.select v78 v79 v73
  let c32_i32_89 : BitVec 32 := 32#32
  let v81 : BitVec 32 := Scalar.muli v80 c32_i32_89
  let v82 : BitVec 32 := Scalar.addi v81 c0_i32_90
  let c0_i32_106 : BitVec 32 := 0#32
  let c0_i32_107 : BitVec 32 := 0#32
  let c0_i32_108 : BitVec 32 := 0#32
  ![v70.toNat, v82.toNat, 0, 0, 0]
def k0_off13 (k0_t1 : Fin k0_t1_loop.trips) : Fin 2 → Nat :=
  let c1_i32_109 : BitVec 32 := 1#32
  let c0_i32_65 : BitVec 32 := 0#32
  let c1_i32_66 : BitVec 32 := 1#32
  let arg8 : BitVec 32 := Scf.iv c0_i32_65 c1_i32_66 k0_t1
  let c2_i32_75 : BitVec 32 := 2#32
  let v50 : BitVec 32 := Scalar.remsi arg8 c2_i32_75
  ![1, v50.toNat]
def k0_off14 (k0_t1 : Fin k0_t1_loop.trips) : Fin 5 → Nat :=
  let c0_i32_65 : BitVec 32 := 0#32
  let c1_i32_66 : BitVec 32 := 1#32
  let arg8 : BitVec 32 := Scf.iv c0_i32_65 c1_i32_66 k0_t1
  let c2_i32_75 : BitVec 32 := 2#32
  let v50 : BitVec 32 := Scalar.remsi arg8 c2_i32_75
  let c16_i32_110 : BitVec 32 := 16#32
  let c0_i32_111 : BitVec 32 := 0#32
  let c0_i32_112 : BitVec 32 := 0#32
  let c0_i32_113 : BitVec 32 := 0#32
  ![v50.toNat, 16, 0, 0, 0]
def k0_off15 (k0_t1 : Fin k0_t1_loop.trips) : Fin 2 → Nat :=
  let c2_i32_117 : BitVec 32 := 2#32
  let c0_i32_65 : BitVec 32 := 0#32
  let c1_i32_66 : BitVec 32 := 1#32
  let arg8 : BitVec 32 := Scf.iv c0_i32_65 c1_i32_66 k0_t1
  let c2_i32_75 : BitVec 32 := 2#32
  let v50 : BitVec 32 := Scalar.remsi arg8 c2_i32_75
  ![2, v50.toNat]
def k0_off16 (k0_t1 : Fin k0_t1_loop.trips) : Fin 2 → Nat :=
  let c3_i32_125 : BitVec 32 := 3#32
  let c0_i32_65 : BitVec 32 := 0#32
  let c1_i32_66 : BitVec 32 := 1#32
  let arg8 : BitVec 32 := Scf.iv c0_i32_65 c1_i32_66 k0_t1
  let c2_i32_75 : BitVec 32 := 2#32
  let v50 : BitVec 32 := Scalar.remsi arg8 c2_i32_75
  ![3, v50.toNat]
def k0_off17 (k0_t1 : Fin k0_t1_loop.trips) : Fin 2 → Nat :=
  let c4_i32_133 : BitVec 32 := 4#32
  let c0_i32_65 : BitVec 32 := 0#32
  let c1_i32_66 : BitVec 32 := 1#32
  let arg8 : BitVec 32 := Scf.iv c0_i32_65 c1_i32_66 k0_t1
  let c2_i32_75 : BitVec 32 := 2#32
  let v50 : BitVec 32 := Scalar.remsi arg8 c2_i32_75
  ![4, v50.toNat]
def k0_off18 (k0_t1 : Fin k0_t1_loop.trips) : Fin 2 → Nat :=
  let c5_i32_141 : BitVec 32 := 5#32
  let c0_i32_65 : BitVec 32 := 0#32
  let c1_i32_66 : BitVec 32 := 1#32
  let arg8 : BitVec 32 := Scf.iv c0_i32_65 c1_i32_66 k0_t1
  let c2_i32_75 : BitVec 32 := 2#32
  let v50 : BitVec 32 := Scalar.remsi arg8 c2_i32_75
  ![5, v50.toNat]
def k0_off19 (k0_t1 : Fin k0_t1_loop.trips) : Fin 5 → Nat :=
  let c0_i32_65 : BitVec 32 := 0#32
  let c1_i32_66 : BitVec 32 := 1#32
  let arg8 : BitVec 32 := Scf.iv c0_i32_65 c1_i32_66 k0_t1
  let c2_i32_75 : BitVec 32 := 2#32
  let v50 : BitVec 32 := Scalar.remsi arg8 c2_i32_75
  let c0_i32_149 : BitVec 32 := 0#32
  let c0_i32_150 : BitVec 32 := 0#32
  let c0_i32_151 : BitVec 32 := 0#32
  let c0_i32_152 : BitVec 32 := 0#32
  ![v50.toNat, 0, 0, 0, 0]
def k0_off20 (k0_t1 : Fin k0_t1_loop.trips) : Fin 3 → Nat :=
  let c0_i32_65 : BitVec 32 := 0#32
  let c1_i32_66 : BitVec 32 := 1#32
  let arg8 : BitVec 32 := Scf.iv c0_i32_65 c1_i32_66 k0_t1
  let c0_i32_251 : BitVec 32 := 0#32
  let v313 : BitVec 1 := Scalar.cmpi .sgt arg8 c0_i32_251
  let v314 : BitVec 32 := Scalar.extui v313
  let c0_i32_252 : BitVec 32 := 0#32
  let v315 : BitVec 1 := Scalar.cmpi .slt arg8 c0_i32_252
  let v316 : BitVec 32 := Scalar.extui v315
  let v317 : BitVec 32 := Scalar.subi v314 v316
  let c8_i32_250 : BitVec 32 := 8#32
  let c0_i32_253 : BitVec 32 := 0#32
  let v318 : BitVec 1 := Scalar.cmpi .sgt c8_i32_250 c0_i32_253
  let v319 : BitVec 32 := Scalar.extui v318
  let c0_i32_254 : BitVec 32 := 0#32
  let v320 : BitVec 1 := Scalar.cmpi .slt c8_i32_250 c0_i32_254
  let v321 : BitVec 32 := Scalar.extui v320
  let v322 : BitVec 32 := Scalar.subi v319 v321
  let v323 : BitVec 1 := Scalar.cmpi .ne v317 v322
  let v324 : BitVec 32 := Scalar.remsi arg8 c8_i32_250
  let c0_i32_255 : BitVec 32 := 0#32
  let v325 : BitVec 1 := Scalar.cmpi .ne v324 c0_i32_255
  let v326 : BitVec 1 := Scalar.andi v323 v325
  let v312 : BitVec 32 := Scalar.divsi arg8 c8_i32_250
  let c1_i32_256 : BitVec 32 := 1#32
  let v327 : BitVec 32 := Scalar.subi v312 c1_i32_256
  let v328 : BitVec 32 := Scalar.select v326 v327 v312
  let v339 : Index := Scalar.indexCast v328
  let c8_i32_257 : BitVec 32 := 8#32
  let c0_i32_258 : BitVec 32 := 0#32
  let v329 : BitVec 1 := Scalar.cmpi .eq c8_i32_257 c0_i32_258
  let c1_i32_259 : BitVec 32 := 1#32
  let v330 : BitVec 32 := Scalar.select v329 c1_i32_259 c8_i32_257
  let v331 : BitVec 32 := Scalar.remsi arg8 v330
  let c0_i32_261 : BitVec 32 := 0#32
  let v333 : BitVec 1 := Scalar.cmpi .slt v331 c0_i32_261
  let c0_i32_262 : BitVec 32 := 0#32
  let v334 : BitVec 1 := Scalar.cmpi .slt v330 c0_i32_262
  let v335 : BitVec 1 := Scalar.xori v333 v334
  let c0_i32_260 : BitVec 32 := 0#32
  let v332 : BitVec 1 := Scalar.cmpi .ne v331 c0_i32_260
  let v336 : BitVec 1 := Scalar.andi v335 v332
  let v337 : BitVec 32 := Scalar.addi v331 v330
  let v338 : BitVec 32 := Scalar.select v336 v337 v331
  let v340 : Index := Scalar.indexCast v338
  let c0_263 : Index := 0#32
  ![v339.toNat, v340.toNat, 0]
abbrev stage0_0 : Fin 1 → Memref sig .tc .vmem S4x8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x256x32x32x32 : Shape := ⟨5, ![4, 256, 32, 32, 32]⟩
abbrev S_ : Shape := ⟨0, ![]⟩
abbrev S4x256x16x16x16 : Shape := ⟨5, ![4, 256, 16, 16, 16]⟩
abbrev S4x256x4096 : Shape := ⟨3, ![4, 256, 4096]⟩
abbrev S4x256 : Shape := ⟨2, ![4, 256]⟩
abbrev S4 : Shape := ⟨1, ![4]⟩
abbrev S4x1 : Shape := ⟨2, ![4, 1]⟩

abbrev nBuf : Space → Nat
  | .hbm => 60
  | .vmem => 0
  | .smem => 0
  | _ => 0

abbrev bufTy : (tb : Table) → Fin (tcTables nBuf tb) → BufTy
  | .hbm, ⟨0, _⟩ => ⟨S4x256x32x32x32, .f32⟩
  | .hbm, ⟨1, _⟩ => ⟨S4x256x32x32x32, .f32⟩
  | .hbm, ⟨2, _⟩ => ⟨S4x256x32x32x32, .f32⟩
  | .hbm, ⟨3, _⟩ => ⟨S_, .f32⟩
  | .hbm, ⟨4, _⟩ => ⟨S_, .f32⟩
  | .hbm, ⟨5, _⟩ => ⟨S4x256x16x16x16, .f32⟩
  | .hbm, ⟨6, _⟩ => ⟨S_, .f32⟩
  | .hbm, ⟨7, _⟩ => ⟨S_, .f32⟩
  | .hbm, ⟨8, _⟩ => ⟨S4x256x16x16x16, .f32⟩
  | .hbm, ⟨9, _⟩ => ⟨S_, .f32⟩
  | .hbm, ⟨10, _⟩ => ⟨S4x256x16x16x16, .f32⟩
  | .hbm, ⟨11, _⟩ => ⟨S4x256x16x16x16, .f32⟩
  | .hbm, ⟨12, _⟩ => ⟨S4x256x16x16x16, .f32⟩
  | .hbm, ⟨13, _⟩ => ⟨S4x256x4096, .f32⟩
  | .hbm, ⟨14, _⟩ => ⟨S_, .f32⟩
  | .hbm, ⟨15, _⟩ => ⟨S_, .f32⟩
  | .hbm, ⟨16, _⟩ => ⟨S4x256x16x16x16, .f32⟩
  | .hbm, ⟨17, _⟩ => ⟨S_, .f32⟩
  | .hbm, ⟨18, _⟩ => ⟨S_, .f32⟩
  | .hbm, ⟨19, _⟩ => ⟨S4x256x16x16x16, .f32⟩
  | .hbm, ⟨20, _⟩ => ⟨S_, .f32⟩
  | .hbm, ⟨21, _⟩ => ⟨S4x256x16x16x16, .f32⟩
  | .hbm, ⟨22, _⟩ => ⟨S4x256x16x16x16, .f32⟩
  | .hbm, ⟨23, _⟩ => ⟨S4x256x16x16x16, .f32⟩
  | .hbm, ⟨24, _⟩ => ⟨S4x256x4096, .f32⟩
  | .hbm, ⟨25, _⟩ => ⟨S_, .f32⟩
  | .hbm, ⟨26, _⟩ => ⟨S_, .f32⟩
  | .hbm, ⟨27, _⟩ => ⟨S4x256x16x16x16, .f32⟩
  | .hbm, ⟨28, _⟩ => ⟨S_, .f32⟩
  | .hbm, ⟨29, _⟩ => ⟨S_, .f32⟩
  | .hbm, ⟨30, _⟩ => ⟨S4x256x16x16x16, .f32⟩
  | .hbm, ⟨31, _⟩ => ⟨S_, .f32⟩
  | .hbm, ⟨32, _⟩ => ⟨S4x256x16x16x16, .f32⟩
  | .hbm, ⟨33, _⟩ => ⟨S4x256x16x16x16, .f32⟩
  | .hbm, ⟨34, _⟩ => ⟨S4x256x16x16x16, .f32⟩
  | .hbm, ⟨35, _⟩ => ⟨S4x256x4096, .f32⟩
  | .hbm, ⟨36, _⟩ => ⟨S4x256x4096, .f32⟩
  | .hbm, ⟨37, _⟩ => ⟨S_, .f32⟩
  | .hbm, ⟨38, _⟩ => ⟨S4x256, .f32⟩
  | .hbm, ⟨39, _⟩ => ⟨S4x256x4096, .f32⟩
  | .hbm, ⟨40, _⟩ => ⟨S_, .f32⟩
  | .hbm, ⟨41, _⟩ => ⟨S4x256, .f32⟩
  | .hbm, ⟨42, _⟩ => ⟨S4x256x4096, .f32⟩
  | .hbm, ⟨43, _⟩ => ⟨S_, .f32⟩
  | .hbm, ⟨44, _⟩ => ⟨S4x256, .f32⟩
  | .hbm, ⟨45, _⟩ => ⟨S4x256, .f32⟩
  | .hbm, ⟨46, _⟩ => ⟨S4x256, .f32⟩
  | .hbm, ⟨47, _⟩ => ⟨S4x256, .f32⟩
  | .hbm, ⟨48, _⟩ => ⟨S4x256, .f32⟩
  | .hbm, ⟨49, _⟩ => ⟨S4x256, .f32⟩
  | .hbm, ⟨50, _⟩ => ⟨S4x256, .f32⟩
  | .hbm, ⟨51, _⟩ => ⟨S_, .f32⟩
  | .hbm, ⟨52, _⟩ => ⟨S4, .f32⟩
  | .hbm, ⟨53, _⟩ => ⟨S4x1, .f32⟩
  | .hbm, ⟨54, _⟩ => ⟨S4x1, .f32⟩
  | .hbm, ⟨55, _⟩ => ⟨S_, .f32⟩
  | .hbm, ⟨56, _⟩ => ⟨S4x1, .f32⟩
  | .hbm, ⟨57, _⟩ => ⟨S4x1, .f32⟩
  | .hbm, ⟨58, _⟩ => ⟨S4x256, .f32⟩
  | .hbm, ⟨59, _⟩ => ⟨S4x256, .f32⟩
  | _, _ => ⟨S4x256x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_v25 : Ref sig .tc := ⟨.hbm, 38, rfl⟩
abbrev main_v26 : Ref sig .tc := ⟨.hbm, 39, rfl⟩
abbrev main_cst_9 : Ref sig .tc := ⟨.hbm, 40, rfl⟩
abbrev main_v27 : Ref sig .tc := ⟨.hbm, 41, rfl⟩
abbrev main_v28 : Ref sig .tc := ⟨.hbm, 42, rfl⟩
abbrev main_cst_10 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call0_v0 : Ref sig .tc := ⟨.hbm, 50, rfl⟩
abbrev main_call0_cst : Ref sig .tc := ⟨.hbm, 51, rfl⟩
abbrev main_call0_v1 : Ref sig .tc := ⟨.hbm, 52, rfl⟩
abbrev main_call0_v2 : Ref sig .tc := ⟨.hbm, 53, rfl⟩
abbrev main_v35 : Ref sig .tc := ⟨.hbm, 54, rfl⟩
abbrev main_cst_11 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== Proof.Ideal.Names.lean ====
/-
  The names of the kernel's transfers, for the program `KernelIdeal` at any float interpretation: the half-chunks of
  the three arrays in HBM, the half-slots of the three double buffers, the twelve cells; and the equations that bring
  the body's slices to them. Chunk `b` of an array is its 32 channels from channel `32 b` on; half `h` of a chunk or
  slot is its 16 channels from `16 h` on; trip `k` works in slot `k % 2`.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Pipeline.FrameSuffix
public import Idealize.ShloMosaic.Lib.Ring
public import Idealize.ShloMosaic.Lib.Affine
public import Idealize.ShloMosaic.Lib.Tactic

@[expose] public section

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The names -/

abbrev ArrM : Type := Memref sig .tc .hbm S4x256x32x8x128 .f32
abbrev BufM : Type := Memref sig .tc .vmem S2x32x32x8x128 .f32

abbrev xM : ArrM := Memref.whole main_v0
abbrev yM : ArrM := Memref.whole main_v1
abbrev zM : ArrM := Memref.whole main_v2
abbrev xB : BufM := Memref.whole cc0_scratch0
abbrev yB : BufM := Memref.whole cc0_scratch1
abbrev zB : BufM := Memref.whole cc0_scratch2

abbrev chunkOff (b : Fin 32) (h : Fin 2) : Fin 5 → Nat := ![b.val / 8, b.val % 8 * 32 + 16 * h.val, 0, 0, 0]
theorem chunkOff_inb (b : Fin 32) (h : Fin 2) : ∀ a, chunkOff b h a + S1x16x32x8x128.size a ≤ S4x256x32x8x128.size a := by
  have := b.isLt; have := h.isLt; intro a; fin_cases a
  · show b.val / 8 + 1 ≤ 4; omega
  · show b.val % 8 * 32 + 16 * h.val + 16 ≤ 256; omega
  · show 0 + 32 ≤ 32; omega
  · show 0 + 8 ≤ 8; omega
  · show 0 + 128 ≤ 128; omega
abbrev halfOff (s h : Fin 2) : Fin 5 → Nat := ![s.val, 16 * h.val, 0, 0, 0]
theorem halfOff_inb (s h : Fin 2) : ∀ a, halfOff s h a + S1x16x32x8x128.size a ≤ S2x32x32x8x128.size a := by
  have := s.isLt; have := h.isLt; intro a; fin_cases a
  · show s.val + 1 ≤ 2; omega
  · show 16 * h.val + 16 ≤ 32; omega
  · show 0 + 32 ≤ 32; omega
  · show 0 + 8 ≤ 8; omega
  · show 0 + 128 ≤ 128; omega
abbrev slotOff (s : Fin 2) : Fin 5 → Nat := ![s.val, 0, 0, 0, 0]
theorem slotOff_inb (s : Fin 2) : ∀ a, slotOff s a + S1x32x32x8x128.size a ≤ S2x32x32x8x128.size a := by
  have := s.isLt; intro a; fin_cases a
  · show s.val + 1 ≤ 2; omega
  · show 0 + 32 ≤ 32; omega
  · show 0 + 32 ≤ 32; omega
  · show 0 + 8 ≤ 8; omega
  · show 0 + 128 ≤ 128; omega
abbrev semOff (i : Fin 6) (s : Fin 2) : Fin 2 → Nat := ![i.val, s.val]
theorem semOff_inb (i : Fin 6) (s : Fin 2) : ∀ a, semOff i s a + S1x1.size a ≤ S6x2.size a := by
  have := i.isLt; have := s.isLt; intro a; fin_cases a
  · show i.val + 1 ≤ 6; omega
  · show s.val + 1 ≤ 2; omega

/-- Half `h` of chunk `b` of the array `A`, as the body slices and squeezes it. -/
def chunk (A : ArrM) (b : Fin 32) (h : Fin 2) : Memref sig .tc .hbm S16x32x8x128 .f32 :=
  (A.slice (Rect.unit (s := S4x256x32x8x128) (chunkOff b h) S1x16x32x8x128.size (chunkOff_inb b h)) (fun _ => rfl)).squeeze
    S16x32x8x128 squeezes_S1x16x32x8x128_S16x32x8x128
/-- Half `h` of slot `s` of the double buffer `B`. -/
def half (B : BufM) (s h : Fin 2) : Memref sig .tc .vmem S16x32x8x128 .f32 :=
  (B.slice (Rect.unit (s := S2x32x32x8x128) (halfOff s h) S1x16x32x8x128.size (halfOff_inb s h)) (fun _ => rfl)).squeeze
    S16x32x8x128 squeezes_S1x16x32x8x128_S16x32x8x128
/-- Slot `s` of the double buffer `B`, both halves. -/
def slot (B : BufM) (s : Fin 2) : Memref sig .tc .vmem S32x32x8x128 .f32 :=
  (B.slice (Rect.unit (s := S2x32x32x8x128) (slotOff s) S1x32x32x8x128.size (slotOff_inb s)) (fun _ => rfl)).squeeze
    S32x32x8x128 squeezes_S1x32x32x8x128_S32x32x8x128
/-- Cell `i` of slot `s`: the semaphore on which the transfer into half `i % 2` of buffer `i / 2` completes. -/
def cell (i : Fin 6) (s : Fin 2) : DmaSems sig S_ :=
  (cc0_scratch3.slice (Rect.unit (s := S6x2) (semOff i s) S1x1.size (semOff_inb i s))).squeeze S_ squeezes_S1x1_S_

instance (b : Fin 32) (h : Fin 2) : ClosedOff (chunkOff b h) := ⟨chunkOff b h, rfl⟩
instance (s h : Fin 2) : ClosedOff (halfOff s h) := ⟨halfOff s h, rfl⟩
instance (s : Fin 2) : ClosedOff (slotOff s) := ⟨slotOff s, rfl⟩
instance (i : Fin 6) (s : Fin 2) : ClosedOff (semOff i s) := ⟨semOff i s, rfl⟩

/-! ## The offsets of a trip in closed form -/

section Offsets
variable (k : Fin k0_t1_loop.trips)

theorem trips_eq : k0_t1_loop.trips = 32 := by decide +kernel
theorem trip_lt : k.val < 32 := Nat.lt_of_lt_of_eq k.isLt trips_eq

theorem off3_closed : ∀ k : Fin k0_t1_loop.trips, k.val + 1 < 32 → ∀ h : Fin 2,
    k0_off3 k (BitVec.ofNat 32 (16 * h.val)) = ![(k.val + 1) / 8, (k.val + 1) % 8 * 32 + 16 * h.val, 0, 0, 0] := by decide +kernel
theorem off12_closed : ∀ (k : Fin k0_t1_loop.trips) (h : Fin 2),
    k0_off12 k (BitVec.ofNat 32 (16 * h.val)) = ![k.val / 8, k.val % 8 * 32 + 16 * h.val, 0, 0, 0] := by decide +kernel
theorem off20_closed : ∀ k : Fin k0_t1_loop.trips, k0_off20 k = ![k.val / 8, k.val % 8, 0] := by decide +kernel
instance : ClosedOff (k0_off20 k) := ⟨![k.val / 8, k.val % 8, 0], off20_closed k⟩

/-- The guard of the next chunk's transfers: every trip but the last. -/
theorem cond_iff : ∀ k : Fin k0_t1_loop.trips, k0_cond1 k = 1#1 ↔ k.val + 1 < 32 := by decide +kernel

theorem off3_eq (hk : k.val + 1 < 32) (h : Fin 2) : k0_off3 k (BitVec.ofNat 32 (16 * h.val)) = chunkOff (Ring.bk 32 (k.val + 1)) h := by
  rw [off3_closed k hk h]; unfold chunkOff; rw [Ring.bk_val hk]
theorem off12_eq (h : Fin 2) : k0_off12 k (BitVec.ofNat 32 (16 * h.val)) = chunkOff (Ring.bk 32 k.val) h := by
  rw [off12_closed k h]; unfold chunkOff; rw [Ring.bk_val (trip_lt k)]

theorem sl_val (n : ℕ) : (Ring.sl 2 n).val = n % 2 := by simp [Ring.sl, Fin.ofNat]
theorem sl_next (n : ℕ) : 1 - n % 2 = (Ring.sl 2 (n + 1)).val := by rw [sl_val]; omega

end Offsets

/-! ## The body's slices are the named ones -/

section Canon
variable (k : Fin k0_t1_loop.trips) (A : ArrM) (B : BufM)

theorem cell_congr {off : Fin 2 → Nat} {i : Fin 6} {s : Fin 2} (e : off = semOff i s) (hh) :
    (cc0_scratch3.slice (Rect.unit (s := S6x2) off S1x1.size hh)).squeeze S_ squeezes_S1x1_S_ = cell i s :=
  congrArg (fun C : DmaSems sig S1x1 => C.squeeze S_ squeezes_S1x1_S_) (SemArray.slice_unit_congr _ e _ _)
theorem half_congr {off : Fin 5 → Nat} {s h : Fin 2} (e : off = halfOff s h) (hh hs) :
    (B.slice (Rect.unit (s := S2x32x32x8x128) off S1x16x32x8x128.size hh) hs).squeeze S16x32x8x128 squeezes_S1x16x32x8x128_S16x32x8x128 = half B s h :=
  congrArg (fun M : Memref sig .tc .vmem S1x16x32x8x128 .f32 => M.squeeze S16x32x8x128 squeezes_S1x16x32x8x128_S16x32x8x128)
    (Memref.slice_unit_congr _ e _ _ _ _)
theorem slot_congr {off : Fin 5 → Nat} {s : Fin 2} (e : off = slotOff s) (hh hs) :
    (B.slice (Rect.unit (s := S2x32x32x8x128) off S1x32x32x8x128.size hh) hs).squeeze S32x32x8x128 squeezes_S1x32x32x8x128_S32x32x8x128 = slot B s :=
  congrArg (fun M : Memref sig .tc .vmem S1x32x32x8x128 .f32 => M.squeeze S32x32x8x128 squeezes_S1x32x32x8x128_S32x32x8x128)
    (Memref.slice_unit_congr _ e _ _ _ _)
theorem chunk_congr {off : Fin 5 → Nat} {b : Fin 32} {h : Fin 2} (e : off = chunkOff b h) (hh hs) :
    (A.slice (Rect.unit (s := S4x256x32x8x128) off S1x16x32x8x128.size hh) hs).squeeze S16x32x8x128 squeezes_S1x16x32x8x128_S16x32x8x128 = chunk A b h :=
  congrArg (fun M : Memref sig .tc .hbm S1x16x32x8x128 .f32 => M.squeeze S16x32x8x128 squeezes_S1x16x32x8x128_S16x32x8x128)
    (Memref.slice_unit_congr _ e _ _ _ _)

/-- The prologue: chunk 0 into slot 0. -/
@[sl_canon] theorem cellL0 (hh) : (cc0_scratch3.slice (Rect.unit (s := S6x2) ![0, 0] S1x1.size hh)).squeeze S_ squeezes_S1x1_S_ = cell 0 0 :=
  cell_congr (by decide) _
@[sl_canon] theorem cellL1 (hh) : (cc0_scratch3.slice (Rect.unit (s := S6x2) ![1, 0] S1x1.size hh)).squeeze S_ squeezes_S1x1_S_ = cell 1 0 :=
  cell_congr (by decide) _
@[sl_canon] theorem cellL2 (hh) : (cc0_scratch3.slice (Rect.unit (s := S6x2) ![2, 0] S1x1.size hh)).squeeze S_ squeezes_S1x1_S_ = cell 2 0 :=
  cell_congr (by decide) _
@[sl_canon] theorem cellL3 (hh) : (cc0_scratch3.slice (Rect.unit (s := S6x2) ![3, 0] S1x1.size hh)).squeeze S_ squeezes_S1x1_S_ = cell 3 0 :=
  cell_congr (by decide) _
@[sl_canon] theorem cellL4 (hh) : (cc0_scratch3.slice (Rect.unit (s := S6x2) ![4, 0] S1x1.size hh)).squeeze S_ squeezes_S1x1_S_ = cell 4 0 :=
  cell_congr (by decide) _
@[sl_canon] theorem cellL5 (hh) : (cc0_scratch3.slice (Rect.unit (s := S6x2) ![5, 0] S1x1.size hh)).squeeze S_ squeezes_S1x1_S_ = cell 5 0 :=
  cell_congr (by decide) _
@[sl_canon] theorem halfL0 (hh hs) : (B.slice (Rect.unit (s := S2x32x32x8x128) ![0, 0, 0, 0, 0] S1x16x32x8x128.size hh) hs).squeeze S16x32x8x128 squeezes_S1x16x32x8x128_S16x32x8x128 = half B 0 0 :=
  half_congr B (by decide) _ _
@[sl_canon] theorem chunkL0 (hh hs) : (A.slice (Rect.unit (s := S4x256x32x8x128) ![0, 0, 0, 0, 0] S1x16x32x8x128.size hh) hs).squeeze S16x32x8x128 squeezes_S1x16x32x8x128_S16x32x8x128 = chunk A 0 0 :=
  chunk_congr A (by decide) _ _
@[sl_canon] theorem halfL1 (hh hs) : (B.slice (Rect.unit (s := S2x32x32x8x128) ![0, 16, 0, 0, 0] S1x16x32x8x128.size hh) hs).squeeze S16x32x8x128 squeezes_S1x16x32x8x128_S16x32x8x128 = half B 0 1 :=
  half_congr B (by decide) _ _
@[sl_canon] theorem chunkL1 (hh hs) : (A.slice (Rect.unit (s := S4x256x32x8x128) ![0, 16, 0, 0, 0] S1x16x32x8x128.size hh) hs).squeeze S16x32x8x128 squeezes_S1x16x32x8x128_S16x32x8x128 = chunk A 0 1 :=
  chunk_congr A (by decide) _ _

/-- Trip `k` starts chunk `k + 1` into the other slot, -/
@[sl_canon] theorem cellI0 (hh) : (cc0_scratch3.slice (Rect.unit (s := S6x2) (k0_off1 k) S1x1.size hh)).squeeze S_ squeezes_S1x1_S_ = cell 0 (Ring.sl 2 (k.val + 1)) :=
  cell_congr (by rw [k0_off1_eq, sl_next]; rfl) _
@[sl_canon] theorem cellI1 (hh) : (cc0_scratch3.slice (Rect.unit (s := S6x2) (k0_off4 k) S1x1.size hh)).squeeze S_ squeezes_S1x1_S_ = cell 1 (Ring.sl 2 (k.val + 1)) :=
  cell_congr (by rw [k0_off4_eq, sl_next]; rfl) _
@[sl_canon] theorem cellI2 (hh) : (cc0_scratch3.slice (Rect.unit (s := S6x2) (k0_off6 k) S1x1.size hh)).squeeze S_ squeezes_S1x1_S_ = cell 2 (Ring.sl 2 (k.val + 1)) :=
  cell_congr (by rw [k0_off6_eq, sl_next]; rfl) _
@[sl_canon] theorem cellI3 (hh) : (cc0_scratch3.slice (Rect.unit (s := S6x2) (k0_off7 k) S1x1.size hh)).squeeze S_ squeezes_S1x1_S_ = cell 3 (Ring.sl 2 (k.val + 1)) :=
  cell_congr (by rw [k0_off7_eq, sl_next]; rfl) _
@[sl_canon] theorem cellI4 (hh) : (cc0_scratch3.slice (Rect.unit (s := S6x2) (k0_off8 k) S1x1.size hh)).squeeze S_ squeezes_S1x1_S_ = cell 4 (Ring.sl 2 (k.val + 1)) :=
  cell_congr (by rw [k0_off8_eq, sl_next]; rfl) _
@[sl_canon] theorem cellI5 (hh) : (cc0_scratch3.slice (Rect.unit (s := S6x2) (k0_off9 k) S1x1.size hh)).squeeze S_ squeezes_S1x1_S_ = cell 5 (Ring.sl 2 (k.val + 1)) :=
  cell_congr (by rw [k0_off9_eq, sl_next]; rfl) _
@[sl_canon] theorem halfI0 (hh hs) : (B.slice (Rect.unit (s := S2x32x32x8x128) (k0_off2 k) S1x16x32x8x128.size hh) hs).squeeze S16x32x8x128 squeezes_S1x16x32x8x128_S16x32x8x128 = half B (Ring.sl 2 (k.val + 1)) 0 :=
  half_congr B (by rw [k0_off2_eq, sl_next]; rfl) _ _
@[sl_canon] theorem chunkI0 (hk : k.val + 1 < 32) (hh hs) : (A.slice (Rect.unit (s := S4x256x32x8x128) (k0_off3 k 0#32) S1x16x32x8x128.size hh) hs).squeeze S16x32x8x128 squeezes_S1x16x32x8x128_S16x32x8x128 = chunk A (Ring.bk 32 (k.val + 1)) 0 :=
  chunk_congr A (off3_eq k hk 0) _ _
@[sl_canon] theorem halfI1 (hh hs) : (B.slice (Rect.unit (s := S2x32x32x8x128) (k0_off5 k) S1x16x32x8x128.size hh) hs).squeeze S16x32x8x128 squeezes_S1x16x32x8x128_S16x32x8x128 = half B (Ring.sl 2 (k.val + 1)) 1 :=
  half_congr B (by rw [k0_off5_eq, sl_next]; rfl) _ _
@[sl_canon] theorem chunkI1 (hk : k.val + 1 < 32) (hh hs) : (A.slice (Rect.unit (s := S4x256x32x8x128) (k0_off3 k 16#32) S1x16x32x8x128.size hh) hs).squeeze S16x32x8x128 squeezes_S1x16x32x8x128_S16x32x8x128 = chunk A (Ring.bk 32 (k.val + 1)) 1 :=
  chunk_congr A (off3_eq k hk 1) _ _

/-- and waits for chunk `k` in its own. -/
@[sl_canon] theorem cellW0 (hh) : (cc0_scratch3.slice (Rect.unit (s := S6x2) (k0_off10 k) S1x1.size hh)).squeeze S_ squeezes_S1x1_S_ = cell 0 (Ring.sl 2 k.val) :=
  cell_congr (by rw [k0_off10_eq, ← sl_val]; rfl) _
@[sl_canon] theorem cellW1 (hh) : (cc0_scratch3.slice (Rect.unit (s := S6x2) (k0_off13 k) S1x1.size hh)).squeeze S_ squeezes_S1x1_S_ = cell 1 (Ring.sl 2 k.val) :=
  cell_congr (by rw [k0_off13_eq, ← sl_val]; rfl) _
@[sl_canon] theorem cellW2 (hh) : (cc0_scratch3.slice (Rect.unit (s := S6x2) (k0_off15 k) S1x1.size hh)).squeeze S_ squeezes_S1x1_S_ = cell 2 (Ring.sl 2 k.val) :=
  cell_congr (by rw [k0_off15_eq, ← sl_val]; rfl) _
@[sl_canon] theorem cellW3 (hh) : (cc0_scratch3.slice (Rect.unit (s := S6x2) (k0_off16 k) S1x1.size hh)).squeeze S_ squeezes_S1x1_S_ = cell 3 (Ring.sl 2 k.val) :=
  cell_congr (by rw [k0_off16_eq, ← sl_val]; rfl) _
@[sl_canon] theorem cellW4 (hh) : (cc0_scratch3.slice (Rect.unit (s := S6x2) (k0_off17 k) S1x1.size hh)).squeeze S_ squeezes_S1x1_S_ = cell 4 (Ring.sl 2 k.val) :=
  cell_congr (by rw [k0_off17_eq, ← sl_val]; rfl) _
@[sl_canon] theorem cellW5 (hh) : (cc0_scratch3.slice (Rect.unit (s := S6x2) (k0_off18 k) S1x1.size hh)).squeeze S_ squeezes_S1x1_S_ = cell 5 (Ring.sl 2 k.val) :=
  cell_congr (by rw [k0_off18_eq, ← sl_val]; rfl) _
@[sl_canon] theorem halfW0 (hh hs) : (B.slice (Rect.unit (s := S2x32x32x8x128) (k0_off11 k) S1x16x32x8x128.size hh) hs).squeeze S16x32x8x128 squeezes_S1x16x32x8x128_S16x32x8x128 = half B (Ring.sl 2 k.val) 0 :=
  half_congr B (by rw [k0_off11_eq, ← sl_val]; rfl) _ _
@[sl_canon] theorem chunkW0 (hh hs) : (A.slice (Rect.unit (s := S4x256x32x8x128) (k0_off12 k 0#32) S1x16x32x8x128.size hh) hs).squeeze S16x32x8x128 squeezes_S1x16x32x8x128_S16x32x8x128 = chunk A (Ring.bk 32 k.val) 0 :=
  chunk_congr A (off12_eq k 0) _ _
@[sl_canon] theorem halfW1 (hh hs) : (B.slice (Rect.unit (s := S2x32x32x8x128) (k0_off14 k) S1x16x32x8x128.size hh) hs).squeeze S16x32x8x128 squeezes_S1x16x32x8x128_S16x32x8x128 = half B (Ring.sl 2 k.val) 1 :=
  half_congr B (by rw [k0_off14_eq, ← sl_val]; rfl) _ _
@[sl_canon] theorem chunkW1 (hh hs) : (A.slice (Rect.unit (s := S4x256x32x8x128) (k0_off12 k 16#32) S1x16x32x8x128.size hh) hs).squeeze S16x32x8x128 squeezes_S1x16x32x8x128_S16x32x8x128 = chunk A (Ring.bk 32 k.val) 1 :=
  chunk_congr A (off12_eq k 1) _ _
@[sl_canon] theorem slotW (hh hs) : (B.slice (Rect.unit (s := S2x32x32x8x128) (k0_off19 k) S1x32x32x8x128.size hh) hs).squeeze S32x32x8x128 squeezes_S1x32x32x8x128_S32x32x8x128 = slot B (Ring.sl 2 k.val) :=
  slot_congr B (by rw [k0_off19_eq, ← sl_val]) _ _

end Canon

end Cert.Proof.IdealRun

end
-- ==== Proof.Ideal.Slots.lean ====
/-
  A slot and its two halves, an array and the halves of one of its chunks, and the pieces the loop holds of them.
-/
module

public import proofs.«01_k».proof.Proof.Ideal.Names

@[expose] public section

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Where the named views' elements sit -/

section Geometry

/-- The rectangle of half `h` within a slot. -/
abbrev upR (h : Fin 2) : Rect S32x32x8x128 :=
  Rect.unit (s := S32x32x8x128) ![16 * h.val, 0, 0, 0] S16x32x8x128.size (by
    have := h.isLt; intro a; fin_cases a
    · show 16 * h.val + 16 ≤ 32; omega
    · show 0 + 32 ≤ 32; omega
    · show 0 + 8 ≤ 8; omega
    · show 0 + 128 ≤ 128; omega)

/-- The 32 channels of chunk `b` within an array. -/
abbrev chunkR (b : Fin 32) : Rect S4x256x32x8x128 :=
  Rect.unit (s := S4x256x32x8x128) ![b.val / 8, b.val % 8 * 32, 0, 0, 0] S1x32x32x8x128.size (by
    have := b.isLt; intro a; fin_cases a
    · show b.val / 8 + 1 ≤ 4; omega
    · show b.val % 8 * 32 + 32 ≤ 256; omega
    · show 0 + 32 ≤ 32; omega
    · show 0 + 8 ≤ 8; omega
    · show 0 + 128 ≤ 128; omega)

/-- The places of a half, a slot, a half-chunk in the buffer they lie in, and their sets. -/
def halfE (B : BufM) (s h : Fin 2) (y : S16x32x8x128.Idx) : B.view.ty.Idx := (half B s h).view.emb y
def slotE (B : BufM) (s : Fin 2) (w : S32x32x8x128.Idx) : B.view.ty.Idx := (slot B s).view.emb w
def chunkE (A : ArrM) (b : Fin 32) (h : Fin 2) (y : S16x32x8x128.Idx) : A.view.ty.Idx := (chunk A b h).view.emb y
abbrev halfS (B : BufM) (s h : Fin 2) : Finset B.view.ty.Idx := (half B s h).view.set
abbrev slotS (B : BufM) (s : Fin 2) : Finset B.view.ty.Idx := (slot B s).view.set
abbrev chunkS (A : ArrM) (b : Fin 32) (h : Fin 2) : Finset A.view.ty.Idx := (chunk A b h).view.set

theorem mem_halfS {B : BufM} {s h : Fin 2} {i : B.view.ty.Idx} : i ∈ halfS B s h ↔ ∃ y, halfE B s h y = i :=
  ⟨fun hi => by obtain ⟨y, -, e⟩ := Finset.mem_map.mp hi; exact ⟨y, e⟩, fun ⟨y, e⟩ => Finset.mem_map.mpr ⟨y, Finset.mem_univ _, e⟩⟩
theorem mem_slotS {B : BufM} {s : Fin 2} {i : B.view.ty.Idx} : i ∈ slotS B s ↔ ∃ y, slotE B s y = i :=
  ⟨fun hi => by obtain ⟨y, -, e⟩ := Finset.mem_map.mp hi; exact ⟨y, e⟩, fun ⟨y, e⟩ => Finset.mem_map.mpr ⟨y, Finset.mem_univ _, e⟩⟩
theorem mem_chunkS {A : ArrM} {b : Fin 32} {h : Fin 2} {i : A.view.ty.Idx} : i ∈ chunkS A b h ↔ ∃ y, chunkE A b h y = i :=
  ⟨fun hi => by obtain ⟨y, -, e⟩ := Finset.mem_map.mp hi; exact ⟨y, e⟩, fun ⟨y, e⟩ => Finset.mem_map.mpr ⟨y, Finset.mem_univ _, e⟩⟩

theorem slotE_inj {B : BufM} {s : Fin 2} {w w' : S32x32x8x128.Idx} (h : slotE B s w = slotE B s w') : w = w' :=
  (slot B s).view.emb.injective h

theorem halfE_eq (B : BufM) (s h : Fin 2) (y : S16x32x8x128.Idx) : halfE B s h y = slotE B s ((upR h).emb y) := by
  show B.view.emb ((Rect.unit (s := S2x32x32x8x128) (halfOff s h) S1x16x32x8x128.size (halfOff_inb s h)).emb (Shape.reshapeEquiv _ y))
    = B.view.emb ((Rect.unit (s := S2x32x32x8x128) (slotOff s) S1x32x32x8x128.size (slotOff_inb s)).emb (Shape.reshapeEquiv _ ((upR h).emb y)))
  rw [Shape.reshapeEquiv_cons_one, Shape.reshapeEquiv_cons_one]
  congr 1
  funext a
  apply Fin.ext
  rw [Rect.emb_apply, Rect.emb_apply]
  match a with
  | ⟨0, _⟩ => rfl
  | ⟨1, _⟩ => show 16 * h.val + 1 * (y 0).val = 0 + 1 * (16 * h.val + 1 * (y 0).val); omega
  | ⟨2, _⟩ => show 0 + 1 * (y 1).val = 0 + 1 * (0 + 1 * (y 1).val); omega
  | ⟨3, _⟩ => show 0 + 1 * (y 2).val = 0 + 1 * (0 + 1 * (y 2).val); omega
  | ⟨4, _⟩ => show 0 + 1 * (y 3).val = 0 + 1 * (0 + 1 * (y 3).val); omega

theorem chunkE_eq (A : ArrM) (b : Fin 32) (h : Fin 2) (y : S16x32x8x128.Idx) :
    chunkE A b h y = A.view.emb ((chunkR b).emb (Fin.cons ⟨0, Nat.one_pos⟩ ((upR h).emb y))) := by
  show A.view.emb ((Rect.unit (s := S4x256x32x8x128) (chunkOff b h) S1x16x32x8x128.size (chunkOff_inb b h)).emb (Shape.reshapeEquiv _ y)) = _
  rw [Shape.reshapeEquiv_cons_one]
  congr 1
  funext a
  apply Fin.ext
  rw [Rect.emb_apply, Rect.emb_apply]
  match a with
  | ⟨0, _⟩ => rfl
  | ⟨1, _⟩ =>
    show b.val % 8 * 32 + 16 * h.val + 1 * (y 0).val = b.val % 8 * 32 + 1 * (16 * h.val + 1 * (y 0).val); omega
  | ⟨2, _⟩ => show 0 + 1 * (y 1).val = 0 + 1 * (0 + 1 * (y 1).val); omega
  | ⟨3, _⟩ => show 0 + 1 * (y 2).val = 0 + 1 * (0 + 1 * (y 2).val); omega
  | ⟨4, _⟩ => show 0 + 1 * (y 3).val = 0 + 1 * (0 + 1 * (y 3).val); omega

/-- A place of the slot whose channel lies in half `h`'s range is in that half. -/
theorem slotE_mem_half (B : BufM) (s h : Fin 2) (w : S32x32x8x128.Idx) (lo : 16 * h.val ≤ (w 0).val) (hi : (w 0).val < 16 * h.val + 16) :
    slotE B s w ∈ halfS B s h := by
  have l1 : (w 1).val < 32 := (w 1).isLt
  have l2 : (w 2).val < 8 := (w 2).isLt
  have l3 : (w 3).val < 128 := (w 3).isLt
  have hm : w ∈ (upR h).set := Rect.mem_set_unit.mpr fun a => by
    match a with
    | ⟨0, _⟩ => exact ⟨lo, hi⟩
    | ⟨1, _⟩ => exact ⟨Nat.zero_le _, by show (w 1).val < 0 + 32; omega⟩
    | ⟨2, _⟩ => exact ⟨Nat.zero_le _, by show (w 2).val < 0 + 8; omega⟩
    | ⟨3, _⟩ => exact ⟨Nat.zero_le _, by show (w 3).val < 0 + 128; omega⟩
  obtain ⟨y, rfl⟩ := (upR h).exists_idx_of_mem hm
  exact mem_halfS.mpr ⟨y, halfE_eq B s h y⟩

theorem half_sub (B : BufM) (s h : Fin 2) : halfS B s h ⊆ slotS B s := by
  intro i hi
  obtain ⟨y, rfl⟩ := mem_halfS.mp hi
  exact mem_slotS.mpr ⟨_, (halfE_eq B s h y).symm⟩

theorem half_disj (B : BufM) (s : Fin 2) : Disjoint (halfS B s 0) (halfS B s 1) := by
  rw [Finset.disjoint_left]
  intro i h0 h1
  obtain ⟨y, rfl⟩ := mem_halfS.mp h0
  obtain ⟨y', hy⟩ := mem_halfS.mp h1
  rw [halfE_eq, halfE_eq] at hy
  have e := congrArg (fun j : S32x32x8x128.Idx => (j 0 : ℕ)) (slotE_inj hy)
  have e' : 16 * 1 + 1 * (y' 0).val = 16 * 0 + 1 * (y 0).val := e
  have l : (y 0).val < 16 := (y 0).isLt
  omega

theorem slot_union (B : BufM) (s : Fin 2) : slotS B s = halfS B s 0 ∪ halfS B s 1 := by
  apply Finset.Subset.antisymm
  · intro i hi
    obtain ⟨w, rfl⟩ := mem_slotS.mp hi
    have l0 : (w 0).val < 32 := (w 0).isLt
    rw [Finset.mem_union]
    by_cases hw : (w 0).val < 16
    · left; exact slotE_mem_half B s 0 w (Nat.zero_le _) (by show (w 0).val < 16 * 0 + 16; omega)
    · right; exact slotE_mem_half B s 1 w (by show 16 * 1 ≤ (w 0).val; omega) (by show (w 0).val < 16 * 1 + 16; omega)
  · exact Finset.union_subset (half_sub B s 0) (half_sub B s 1)

theorem chunk_sub (A : ArrM) (b : Fin 32) (h : Fin 2) : chunkS A b h ⊆ A.view.set := by
  intro i hi
  obtain ⟨y, rfl⟩ := mem_chunkS.mp hi
  rw [chunkE_eq]; exact View.emb_mem_set _ _

theorem chunk_disj (A : ArrM) (b : Fin 32) : Disjoint (chunkS A b 0) (chunkS A b 1) := by
  rw [Finset.disjoint_left]
  intro i h0 h1
  obtain ⟨y, rfl⟩ := mem_chunkS.mp h0
  obtain ⟨y', hy⟩ := mem_chunkS.mp h1
  rw [chunkE_eq, chunkE_eq] at hy
  have e := congrArg (fun j : S4x256x32x8x128.Idx => (j 1 : ℕ)) (A.view.emb.injective hy)
  have e' : b.val % 8 * 32 + 1 * (16 * 1 + 1 * (y' 0).val) = b.val % 8 * 32 + 1 * (16 * 0 + 1 * (y 0).val) := e
  have l : (y 0).val < 16 := (y 0).isLt
  omega

theorem chunk1_sub (A : ArrM) (b : Fin 32) : chunkS A b 1 ⊆ A.view.set \ chunkS A b 0 := fun i hi =>
  Finset.mem_sdiff.mpr ⟨chunk_sub A b 1 hi, Finset.disjoint_right.mp (chunk_disj A b) hi⟩

end Geometry

/-! ## The pieces -/

abbrev UU (nD : Nat) (τ : Topo) : Type := Pipeline.UD sig nD τ
local notation "𝕄" => MT nD τ sig Unit (Elt F) ℕ (UU nD τ) ℕ

section Pieces
variable (c : Dev nD)

/-- The share of an array that slot `s`'s transfers read through: a half for each slot. -/
def qs (s : Fin 2) : PosShare TreeShare := if s.val = 0 then fullShare.left else fullShare.right

abbrev cellP (i : Fin 6) (s : Fin 2) : sProp 𝕄 := semVal ((c : Thread nD τ), SemLoc.dma (cell i s).sem) 0
abbrev halfP (B : BufM) (s h : Fin 2) (f : Buf (Elt F) ((half B s h).view.loc (c : Thread nD τ))) : sProp 𝕄 :=
  (half B s h).view.loc (c : Thread nD τ) ↦[(half B s h).view.set]{fullShare} f
abbrev slotP (B : BufM) (s : Fin 2) (f : Buf (Elt F) ((slot B s).view.loc (c : Thread nD τ))) : sProp 𝕄 :=
  (slot B s).view.loc (c : Thread nD τ) ↦[(slot B s).view.set]{fullShare} f
abbrev srcP (A : ArrM) (X : Buf (Elt F) (A.view.loc (c : Thread nD τ))) (b : Fin 32) (h s : Fin 2) : sProp 𝕄 :=
  (chunk A b h).view.loc (c : Thread nD τ) ↦[(chunk A b h).view.set]{qs s} X
/-- Slot `s`'s share of the array, all of it. -/
def tokP (A : ArrM) (X : Buf (Elt F) (A.view.loc (c : Thread nD τ))) (s : Fin 2) : sProp 𝕄 :=
  A.view.loc (c : Thread nD τ) ↦[A.view.set]{qs s} X
/-- Slot `s`'s share of the array off chunk `b`. -/
def restP (A : ArrM) (X : Buf (Elt F) (A.view.loc (c : Thread nD τ))) (b : Fin 32) (s : Fin 2) : sProp 𝕄 :=
  A.view.loc (c : Thread nD τ) ↦[(A.view.set \ chunkS A b 0) \ chunkS A b 1]{qs s} X
/-- What the transfer of half `h` of chunk `b` leaves in half `h` of slot `s`. -/
abbrev landed (A : ArrM) (X : Buf (Elt F) (A.view.loc (c : Thread nD τ))) (B : BufM) (b : Fin 32) (s h : Fin 2)
    (f : Buf (Elt F) ((half B s h).view.loc (c : Thread nD τ))) : Buf (Elt F) ((half B s h).view.loc (c : Thread nD τ)) :=
  (half B s h).view.writes (Elt F) f [⟨Rect.whole S16x32x8x128, ReadAs.same.apply ((chunk A b h).view.read (Elt F) X)⟩]
/-- That transfer in flight, issued over the contents `f`, on cell `i`. -/
abbrev flightP (A : ArrM) (X : Buf (Elt F) (A.view.loc (c : Thread nD τ))) (B : BufM) (i : Fin 6) (b : Fin 32) (s h : Fin 2)
    (f : Buf (Elt F) ((half B s h).view.loc (c : Thread nD τ))) : sProp 𝕄 :=
  Transfers.Flight countersEmb (c : Thread nD τ) (SemLoc.dma (cell i s).sem) () 65536
    iprop(halfP c B s h (landed c A X B b s h f) ∗ srcP c A X b h s)

/-- Chunk `b` of the array, as a slot holds it. -/
def chunkVal (A : ArrM) (X : Buf (Elt F) (A.view.loc (c : Thread nD τ))) (b : Fin 32) : S32x32x8x128.Idx → Elt F .f32 :=
  fun w => A.view.read (Elt F) X ((chunkR b).emb (Fin.cons ⟨0, Nat.one_pos⟩ w))
/-- A slot holding chunk `b`. -/
abbrev filled (A : ArrM) (X : Buf (Elt F) (A.view.loc (c : Thread nD τ))) (B : BufM) (b : Fin 32) (s : Fin 2) :
    Buf (Elt F) ((slot B s).view.loc (c : Thread nD τ)) :=
  (slot B s).view.writes (Elt F) (slot B s).view.junk [⟨Rect.whole S32x32x8x128, chunkVal c A X b⟩]

theorem landed_eq (A : ArrM) (X : Buf (Elt F) (A.view.loc (c : Thread nD τ))) (B : BufM) (b : Fin 32) (s h : Fin 2)
    (f : Buf (Elt F) ((half B s h).view.loc (c : Thread nD τ))) :
    ∀ i ∈ halfS B s h, (landed c A X B b s h f : Buf (Elt F) (B.view.loc (c : Thread nD τ))) i
      = (filled c A X B b s : Buf (Elt F) (B.view.loc (c : Thread nD τ))) i := by
  intro i hi
  obtain ⟨y, rfl⟩ := mem_halfS.mp hi
  have h1 : (landed c A X B b s h f : Buf (Elt F) (B.view.loc (c : Thread nD τ))) (halfE B s h y)
      = _root_.cast (congrArg (Elt F) (half B s h).view.elt_eq.symm) ((chunk A b h).view.read (Elt F) X y) := by
    unfold landed
    rw [← View.write_univ_eq_writes_whole, View.writes_nil]
    exact View.write_emb_of_mem _ _ (Finset.mem_univ _)
  have h2 : (filled c A X B b s : Buf (Elt F) (B.view.loc (c : Thread nD τ))) (slotE B s ((upR h).emb y))
      = _root_.cast (congrArg (Elt F) (slot B s).view.elt_eq.symm) (chunkVal c A X b ((upR h).emb y)) :=
    View.rep_emb (slot B s).view (chunkVal c A X b) _
  rw [h1, halfE_eq, h2]
  refine congrArg (_root_.cast _) ?_
  exact congrArg (fun j => _root_.cast (congrArg (Elt F) A.view.elt_eq) (X j)) (chunkE_eq A b h y)

theorem join_slot (A : ArrM) (X : Buf (Elt F) (A.view.loc (c : Thread nD τ))) (B : BufM) (b : Fin 32) (s : Fin 2)
    (f0 : Buf (Elt F) ((half B s 0).view.loc (c : Thread nD τ))) (f1 : Buf (Elt F) ((half B s 1).view.loc (c : Thread nD τ))) :
    iprop(halfP c B s 0 (landed c A X B b s 0 f0) ∗ halfP c B s 1 (landed c A X B b s 1 f1)) ⊢ (slotP c B s (filled c A X B b s) : sProp 𝕄) := by
  have hu : (B.view.loc (c : Thread nD τ) ↦[slotS B s]{fullShare} filled c A X B b s : sProp 𝕄)
      = (B.view.loc (c : Thread nD τ) ↦[halfS B s 0 ∪ halfS B s 1]{fullShare} filled c A X B b s) := by rw [slot_union]
  have h0 : (B.view.loc (c : Thread nD τ) ↦[halfS B s 0]{fullShare} landed c A X B b s 0 f0 : sProp 𝕄)
      = (B.view.loc (c : Thread nD τ) ↦[halfS B s 0]{fullShare} filled c A X B b s) := pointsTo_congr (landed_eq c A X B b s 0 f0)
  have h1 : (B.view.loc (c : Thread nD τ) ↦[halfS B s 1]{fullShare} landed c A X B b s 1 f1 : sProp 𝕄)
      = (B.view.loc (c : Thread nD τ) ↦[halfS B s 1]{fullShare} filled c A X B b s) := pointsTo_congr (landed_eq c A X B b s 1 f1)
  show iprop((B.view.loc (c : Thread nD τ) ↦[halfS B s 0]{fullShare} landed c A X B b s 0 f0)
    ∗ (B.view.loc (c : Thread nD τ) ↦[halfS B s 1]{fullShare} landed c A X B b s 1 f1))
    ⊢ (B.view.loc (c : Thread nD τ) ↦[slotS B s]{fullShare} filled c A X B b s : sProp 𝕄)
  rw [hu, h0, h1]
  exact (pointsTo_union (half_disj B s)).2

theorem split_slot (B : BufM) (s : Fin 2) (f : Buf (Elt F) ((slot B s).view.loc (c : Thread nD τ))) :
    (slotP c B s f : sProp 𝕄) ⊢ iprop(halfP c B s 0 f ∗ halfP c B s 1 f) := by
  show (B.view.loc (c : Thread nD τ) ↦[slotS B s]{fullShare} f : sProp 𝕄)
    ⊢ iprop((B.view.loc (c : Thread nD τ) ↦[halfS B s 0]{fullShare} f) ∗ (B.view.loc (c : Thread nD τ) ↦[halfS B s 1]{fullShare} f))
  rw [slot_union]
  exact (pointsTo_union (half_disj B s)).1

theorem split_tok (A : ArrM) (X : Buf (Elt F) (A.view.loc (c : Thread nD τ))) (b : Fin 32) (s : Fin 2) :
    (tokP c A X s : sProp 𝕄) ⊢ iprop(srcP c A X b 0 s ∗ srcP c A X b 1 s ∗ restP c A X b s) :=
  (pointsTo_split_subset (chunk_sub A b 0)).1.trans (sep_mono_r (pointsTo_split_subset (chunk1_sub A b)).1)

theorem join_tok (A : ArrM) (X : Buf (Elt F) (A.view.loc (c : Thread nD τ))) (b : Fin 32) (s : Fin 2) :
    iprop(srcP c A X b 0 s ∗ srcP c A X b 1 s ∗ restP c A X b s) ⊢ (tokP c A X s : sProp 𝕄) :=
  (sep_mono_r (pointsTo_split_subset (chunk1_sub A b)).2).trans (pointsTo_split_subset (chunk_sub A b 0)).2

end Pieces

end Cert.Proof.IdealRun

end
-- ==== Proof.Ideal.Payload.lean ====
/-
  What one trip computes: of the 32 channels a slot holds of each of the three arrays, the pooled features of the
  chunk's 32 channels; and what the epilogue's row scaling is applied to.
-/
module

public import proofs.«01_k».proof.Proof.Ideal.Slots

@[expose] public section

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The even rows of a slot's second axis, and the odd ones. -/
abbrev evR : LoadRect S32x32x8x128 := ⟨![0, 0, 0, 0], S32x16x8x128.size, ![1, 2, 1, 1], inb_S32x32x8x128_S32x16x8x128_0_0_0_0_s_1_2_1_1⟩
abbrev odR : LoadRect S32x32x8x128 := ⟨![0, 1, 0, 0], S32x16x8x128.size, ![1, 2, 1, 1], inb_S32x32x8x128_S32x16x8x128_0_1_0_0_s_1_2_1_1⟩
def ev (x : S32x32x8x128.Idx → Elt F .f32) : Vec F S32x16x8x128 .f32 := fun y => x (evR.idx y)
def od (x : S32x32x8x128.Idx → Elt F .f32) : Vec F S32x16x8x128 .f32 := fun y => x (odR.idx y)

/-- One array's pooled sum over a channel: the body's sum of the window maxima and of an eighth of all elements. -/
def laneSum (x : S32x32x8x128.Idx → Elt F .f32) : FVec F S32 .f32 :=
  k0_pay8 (k0_pay2 (ev x) (od x)) (k0_pay3 (ev x) (od x)) k0_pay4 k0_pay5 k0_pay6 k0_pay7

/-- The three pairwise sums, squared and added. -/
def combine (sx sy sz : FVec F S32 .f32) : FVec F S32 .f32 :=
  addf (addf (mulf (addf sx sy) (addf sx sy)) (mulf (addf sy sz) (addf sy sz))) (mulf (addf sx sz) (addf sx sz))

/-- A chunk's pooled features. -/
def pool (x y z : S32x32x8x128.Idx → Elt F .f32) : FVec F S32 .f32 := combine (laneSum x) (laneSum y) (laneSum z)

theorem readCov_whole (v : View sig .tc .vmem S32x32x8x128 .f32) (x : S32x32x8x128.Idx → Elt F .f32) (r : LoadRect S32x32x8x128) :
    v.readCov (Val := Elt F) [⟨Rect.whole S32x32x8x128, x⟩] r = fun y => x (r.idx y) := View.readAt_rep v r x

/-- The stored value as the body spells it, its three sums by three different payloads. -/
theorem pay_eq (x y z : S32x32x8x128.Idx → Elt F .f32) :
    k0_pay21 (laneSum x)
        (k0_pay14 (k0_pay9 (ev y) (od y)) (k0_pay10 (ev y) (od y)) (iota Kind.tc S8x128 32 [1] iota_S8x128_d1_w32) 2#32 k0_pay11 k0_pay12 k0_pay13)
        (k0_pay15 (ev z) (od z)) (k0_pay16 (ev z) (od z)) k0_pay17 64#32 k0_pay18 k0_pay19 k0_pay20 0#1
      = shapeCast S1x1x32 (pool x y z) shapeCasts_S32_S1x1x32 := rfl

end Cert.Proof.IdealRun

end
-- ==== Proof.Ideal.Trip.lean ====
/-
  One trip of the kernel's loop and its invariant.
-/
module

public import proofs.«01_k».proof.Proof.Ideal.Payload

@[expose] public section

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ
abbrev 𝒱₀ : Variants := Variants.none

/-! ## The pieces -/

section Bundles
variable (c : Dev nD) (X : Buf (Elt F) (xM.view.loc (c : Thread nD τ))) (Y : Buf (Elt F) (yM.view.loc (c : Thread nD τ)))
  (Z : Buf (Elt F) (zM.view.loc (c : Thread nD τ)))

/-- One array's two transfers of chunk `b` in flight into slot `s`, with the rest of the slot's share of the array. -/
abbrev arrFlights (A : ArrM) (X : Buf (Elt F) (A.view.loc (c : Thread nD τ))) (B : BufM) (i j : Fin 6) (b : Fin 32) (s : Fin 2) : sProp 𝕄 :=
  iprop((∃ f, flightP c A X B i b s 0 f) ∗ (∃ f, flightP c A X B j b s 1 f) ∗ restP c A X b s)
/-- Slot `s` of one buffer idle: its contents, its share of the array. -/
abbrev arrIdle (A : ArrM) (X : Buf (Elt F) (A.view.loc (c : Thread nD τ))) (B : BufM) (s : Fin 2) : sProp 𝕄 :=
  iprop((∃ f, slotP c B s f) ∗ tokP c A X s)
/-- Chunk `b` of the three arrays in flight into slot `s`. -/
abbrev flightsP (b : Fin 32) (s : Fin 2) : sProp 𝕄 :=
  iprop(arrFlights c xM X xB 0 1 b s ∗ arrFlights c yM Y yB 2 3 b s ∗ arrFlights c zM Z zB 4 5 b s)
/-- The six cells of slot `s` at zero. -/
abbrev cellsP (s : Fin 2) : sProp 𝕄 :=
  iprop(cellP c 0 s ∗ cellP c 1 s ∗ cellP c 2 s ∗ cellP c 3 s ∗ cellP c 4 s ∗ cellP c 5 s)
/-- Slot `s` idle. -/
abbrev idleP (s : Fin 2) : sProp 𝕄 :=
  iprop((arrIdle c xM X xB s ∗ arrIdle c yM Y yB s ∗ arrIdle c zM Z zB s) ∗ cellsP c s)

end Bundles

section Trip

variable (c : Dev nD) (X : Buf (Elt F) (xM.view.loc (c : Thread nD τ))) (Y : Buf (Elt F) (yM.view.loc (c : Thread nD τ)))
  (Z : Buf (Elt F) (zM.view.loc (c : Thread nD τ)))
  (arg3 : Memref sig .tc .vmem S4x8x32 .f32) (harg3 : arg3.IsWhole)

abbrev oP (fo : Buf (Elt F) (arg3.view.loc (c : Thread nD τ))) : sProp 𝕄 := arg3.view.loc (c : Thread nD τ) ↦[arg3.view.set]{fullShare} fo

abbrev tripG (k : Fin k0_t1_loop.trips) : Prog (TpuEff nD τ sig (Elt F) Λ₀ .tc) Unit :=
  k0_t1_body (F := F) xM (Memref.isWhole_whole _) yM (Memref.isWhole_whole _) zM (Memref.isWhole_whole _) arg3 harg3
    xB (Memref.isWhole_whole _) yB (Memref.isWhole_whole _) zB (Memref.isWhole_whole _) cc0_scratch3 k ()

/-- The channel of an output place. -/
def chan (i : S4x8x32.Idx) : S32.Idx := fun a => ⟨(i 2).val, by match a with | ⟨0, _⟩ => exact (i 2).isLt⟩

/-- Chunk `b`'s pooled features. -/
def poolAt (b : Fin 32) : FVec F S32 .f32 := pool (chunkVal c xM X b) (chunkVal c yM Y b) (chunkVal c zM Z b)

/-- The output block after the chunks before `k`: their pooled features, each in its row. -/
def Good (k : ℕ) (f : Buf (Elt F) (arg3.view.loc (c : Thread nD τ))) : Prop :=
  ∀ i : S4x8x32.Idx, (i 0).val * 8 + (i 1).val < k →
    arg3.view.read (Elt F) f i = poolAt c X Y Z (Ring.bk 32 ((i 0).val * 8 + (i 1).val)) (chan i)

theorem good_zero (f : Buf (Elt F) (arg3.view.loc (c : Thread nD τ))) : Good c X Y Z arg3 0 f := fun i h => absurd h (Nat.not_lt_zero _)

/-- A trip's store adds its chunk's row. -/
theorem good_succ (k : Fin k0_t1_loop.trips) (f : Buf (Elt F) (arg3.view.loc (c : Thread nD τ))) (h : Good c X Y Z arg3 k.val f)
    (inb : ∀ a, k0_off20 k a + S1x1x32.size a ≤ S4x8x32.size a) :
    Good c X Y Z arg3 (k.val + 1) (arg3.view.writes (Elt F) f
      [⟨Rect.unit (s := S4x8x32) (k0_off20 k) S1x1x32.size inb, shapeCast S1x1x32 (poolAt c X Y Z (Ring.bk 32 k.val)) shapeCasts_S32_S1x1x32⟩]) := by
  have hoff := off20_closed k
  intro i hi
  have i0 : (i 0).val < 4 := (i 0).isLt
  have i1 : (i 1).val < 8 := (i 1).isLt
  have i2 : (i 2).val < 32 := (i 2).isLt
  have kl := trip_lt k
  by_cases e : (i 0).val * 8 + (i 1).val = k.val
  · have hx : ∀ a, (i a).val = (Rect.unit (s := S4x8x32) (k0_off20 k) S1x1x32.size inb).off a
        + (Rect.unit (s := S4x8x32) (k0_off20 k) S1x1x32.size inb).stride a
          * ((fun a => match a with | ⟨0, _⟩ => ⟨0, Nat.one_pos⟩ | ⟨1, _⟩ => ⟨0, Nat.one_pos⟩ | ⟨2, _⟩ => ⟨(i 2).val, i2⟩ : S1x1x32.Idx) a).val := by
      intro a
      show (i a).val = k0_off20 k a + 1 * _
      rw [hoff]
      match a with
      | ⟨0, _⟩ => show (i 0).val = k.val / 8 + 1 * 0; omega
      | ⟨1, _⟩ => show (i 1).val = k.val % 8 + 1 * 0; omega
      | ⟨2, _⟩ => show (i 2).val = 0 + 1 * (i 2).val; omega
    rw [View.read_writes_cons_hit_of_coords arg3.view f _ _ [] _ i hx, e]
    refine congrArg (poolAt c X Y Z (Ring.bk 32 k.val)) ?_
    refine Shape.reshapeEquiv_eq_of_rowMajor _ ?_
    rw [Shape.rowMajor_val_one, Shape.rowMajor_val_three]
    show (i 2).val = 0 * 1 * 32 + 0 * 32 + (i 2).val
    omega
  · have hlt : (i 0).val * 8 + (i 1).val < k.val := by omega
    rw [View.read_writes_cons_miss, View.writes_nil]
    · exact h i hlt
    · intro hm
      have hm' := (Rect.mem_set_unit (inb := inb)).mp hm
      have h0 := hm' 0
      have h1 := hm' 1
      rw [hoff] at h0 h1
      have a0 : k.val / 8 ≤ (i 0).val ∧ (i 0).val < k.val / 8 + 1 := h0
      have a1 : k.val % 8 ≤ (i 1).val ∧ (i 1).val < k.val % 8 + 1 := h1
      omega

/-- A trip but the last: chunk `k + 1` started into the other slot, chunk `k` awaited, pooled and its row stored. -/
theorem tripRun (k : Fin k0_t1_loop.trips) (hk1 : k.val + 1 < 32) (fo : Buf (Elt F) (arg3.view.loc (c : Thread nD τ))) (hg : Good c X Y Z arg3 k.val fo) :
    iprop(oP c arg3 fo ∗ (∃ W, owes (c : Thread nD τ) 0 W)
      ∗ flightsP c X Y Z (Ring.bk 32 k.val) (Ring.sl 2 k.val) ∗ idleP c X Y Z (Ring.sl 2 (k.val + 1)))
    ⊢ wp frame (wpE (defs₀ (F := F)) 𝒱₀ (c : Thread nD τ) none) Set.univ (tripG arg3 harg3 k) (fun _ =>
      iprop((∃ f, oP c arg3 f ∗ ⌜Good c X Y Z arg3 (k.val + 1) f⌝) ∗ (∃ W, owes (c : Thread nD τ) 0 W)
        ∗ flightsP c X Y Z (Ring.bk 32 (k.val + 1)) (Ring.sl 2 (k.val + 1)) ∗ idleP c X Y Z (Ring.sl 2 k.val))) := by
  have hc : k0_cond1 k = 1#1 := (cond_iff k).2 hk1
  iintro ⟨HO, ⟨%W, HW⟩, ⟨⟨⟨%fx0, Fx0⟩, ⟨%fx1, Fx1⟩, Rx⟩, ⟨⟨%fy0, Fy0⟩, ⟨%fy1, Fy1⟩, Ry⟩, ⟨⟨%fz0, Fz0⟩, ⟨%fz1, Fz1⟩, Rz⟩⟩, ⟨⟨⟨%gx, Gx⟩, Tx⟩, ⟨⟨%gy, Gy⟩, Ty⟩, ⟨%gz, Gz⟩, Tz⟩, C0, C1, C2, C3, C4, C5⟩
  ihave Gx' := (split_slot c xB (Ring.sl 2 (k.val + 1)) gx) $$ Gx
  icases Gx' with ⟨Gx0, Gx1⟩
  ihave Gy' := (split_slot c yB (Ring.sl 2 (k.val + 1)) gy) $$ Gy
  icases Gy' with ⟨Gy0, Gy1⟩
  ihave Gz' := (split_slot c zB (Ring.sl 2 (k.val + 1)) gz) $$ Gz
  icases Gz' with ⟨Gz0, Gz1⟩
  ihave Tx' := (split_tok c xM X (Ring.bk 32 (k.val + 1)) (Ring.sl 2 (k.val + 1))) $$ Tx
  icases Tx' with ⟨Sx0, Sx1, Nx⟩
  ihave Ty' := (split_tok c yM Y (Ring.bk 32 (k.val + 1)) (Ring.sl 2 (k.val + 1))) $$ Ty
  icases Ty' with ⟨Sy0, Sy1, Ny⟩
  ihave Tz' := (split_tok c zM Z (Ring.bk 32 (k.val + 1)) (Ring.sl 2 (k.val + 1))) $$ Tz
  icases Tz' with ⟨Sz0, Sz1, Nz⟩
  dsimp only [tripG]
  sl_unfold [k0_t1_body]
  sl_exec
  ihave Bx := (join_slot c xM X xB (Ring.bk 32 k.val) (Ring.sl 2 k.val) fx0 fx1) $$ [Fx0_dst Fx1_dst]
  · isplitl [Fx0_dst]; · iexact Fx0_dst
    iexact Fx1_dst
  ihave By := (join_slot c yM Y yB (Ring.bk 32 k.val) (Ring.sl 2 k.val) fy0 fy1) $$ [Fy0_dst Fy1_dst]
  · isplitl [Fy0_dst]; · iexact Fy0_dst
    iexact Fy1_dst
  ihave Bz := (join_slot c zM Z zB (Ring.bk 32 k.val) (Ring.sl 2 k.val) fz0 fz1) $$ [Fz0_dst Fz1_dst]
  · isplitl [Fz0_dst]; · iexact Fz0_dst
    iexact Fz1_dst
  sl_exec
  sl_step
  ihave Ux := (join_tok c xM X (Ring.bk 32 k.val) (Ring.sl 2 k.val)) $$ [Fx0_src Fx1_src Rx]
  · isplitl [Fx0_src]; · iexact Fx0_src
    isplitl [Fx1_src]; · iexact Fx1_src
    iexact Rx
  ihave Uy := (join_tok c yM Y (Ring.bk 32 k.val) (Ring.sl 2 k.val)) $$ [Fy0_src Fy1_src Ry]
  · isplitl [Fy0_src]; · iexact Fy0_src
    isplitl [Fy1_src]; · iexact Fy1_src
    iexact Ry
  ihave Uz := (join_tok c zM Z (Ring.bk 32 k.val) (Ring.sl 2 k.val)) $$ [Fz0_src Fz1_src Rz]
  · isplitl [Fz0_src]; · iexact Fz0_src
    isplitl [Fz1_src]; · iexact Fz1_src
    iexact Rz
  isplitl [HO]
  · iexists _
    isplitl [HO]; · iexact HO
    ipureintro
    have hv : tripRun.sl.r_8 c X Y Z k = shapeCast S1x1x32 (poolAt c X Y Z (Ring.bk 32 k.val)) shapeCasts_S32_S1x1x32 := by
      unfold tripRun.sl.r_8 tripRun.sl.r_2 tripRun.sl.r_5 tripRun.sl.r_6 tripRun.sl.r_7 tripRun.sl.r_3 tripRun.sl.r_4 tripRun.sl.r tripRun.sl.r_1
      rw [show tripRun.sl.v131 c X k = ev (chunkVal c xM X (Ring.bk 32 k.val)) from readCov_whole _ _ _,
        show tripRun.sl.v134 c X k = od (chunkVal c xM X (Ring.bk 32 k.val)) from readCov_whole _ _ _,
        show tripRun.sl.v189 c Y k = ev (chunkVal c yM Y (Ring.bk 32 k.val)) from readCov_whole _ _ _,
        show tripRun.sl.v192 c Y k = od (chunkVal c yM Y (Ring.bk 32 k.val)) from readCov_whole _ _ _,
        show tripRun.sl.v247 c Z k = ev (chunkVal c zM Z (Ring.bk 32 k.val)) from readCov_whole _ _ _,
        show tripRun.sl.v250 c Z k = od (chunkVal c zM Z (Ring.bk 32 k.val)) from readCov_whole _ _ _]
      exact pay_eq _ _ _
    rw [hv]
    exact good_succ c X Y Z arg3 k fo hg _
  isplitl [HW]; · iexists _; iexact HW
  isplitl [C0 C1 C2 C3 C4 C5 Nx Ny Nz]
  · isplitl [C0 C1 Nx]
    · isplitl [C0]; · iexists _; iexact C0
      isplitl [C1]; · iexists _; iexact C1
      iexact Nx
    isplitl [C2 C3 Ny]
    · isplitl [C2]; · iexists _; iexact C2
      isplitl [C3]; · iexists _; iexact C3
      iexact Ny
    isplitl [C4]; · iexists _; iexact C4
    isplitl [C5]; · iexists _; iexact C5
    iexact Nz
  isplitl [Bx By Bz Ux Uy Uz]
  · isplitl [Bx Ux]
    · isplitl [Bx]; · iexists _; iexact Bx
      iexact Ux
    isplitl [By Uy]
    · isplitl [By]; · iexists _; iexact By
      iexact Uy
    isplitl [Bz]; · iexists _; iexact Bz
    iexact Uz
  isplitl [Fx0]; · iexact Fx0
  isplitl [Fx1]; · iexact Fx1
  isplitl [Fy0]; · iexact Fy0
  isplitl [Fy1]; · iexact Fy1
  isplitl [Fz0]; · iexact Fz0
  iexact Fz1

/-- The last trip, which starts nothing. -/
theorem lastRun (k : Fin k0_t1_loop.trips) (hk1 : ¬ k.val + 1 < 32) (fo : Buf (Elt F) (arg3.view.loc (c : Thread nD τ))) (hg : Good c X Y Z arg3 k.val fo) :
    iprop(oP c arg3 fo ∗ (∃ W, owes (c : Thread nD τ) 0 W)
      ∗ flightsP c X Y Z (Ring.bk 32 k.val) (Ring.sl 2 k.val))
    ⊢ wp frame (wpE (defs₀ (F := F)) 𝒱₀ (c : Thread nD τ) none) Set.univ (tripG arg3 harg3 k) (fun _ =>
      iprop((∃ f, oP c arg3 f ∗ ⌜Good c X Y Z arg3 (k.val + 1) f⌝) ∗ (∃ W, owes (c : Thread nD τ) 0 W)
        ∗ idleP c X Y Z (Ring.sl 2 k.val))) := by
  have hc : ¬ k0_cond1 k = 1#1 := fun h => hk1 ((cond_iff k).1 h)
  iintro ⟨HO, ⟨%W, HW⟩, ⟨⟨⟨%fx0, Fx0⟩, ⟨%fx1, Fx1⟩, Rx⟩, ⟨⟨%fy0, Fy0⟩, ⟨%fy1, Fy1⟩, Ry⟩, ⟨⟨%fz0, Fz0⟩, ⟨%fz1, Fz1⟩, Rz⟩⟩⟩
  dsimp only [tripG]
  sl_unfold [k0_t1_body]
  sl_exec
  ihave Bx := (join_slot c xM X xB (Ring.bk 32 k.val) (Ring.sl 2 k.val) fx0 fx1) $$ [Fx0_dst Fx1_dst]
  · isplitl [Fx0_dst]; · iexact Fx0_dst
    iexact Fx1_dst
  ihave By := (join_slot c yM Y yB (Ring.bk 32 k.val) (Ring.sl 2 k.val) fy0 fy1) $$ [Fy0_dst Fy1_dst]
  · isplitl [Fy0_dst]; · iexact Fy0_dst
    iexact Fy1_dst
  ihave Bz := (join_slot c zM Z zB (Ring.bk 32 k.val) (Ring.sl 2 k.val) fz0 fz1) $$ [Fz0_dst Fz1_dst]
  · isplitl [Fz0_dst]; · iexact Fz0_dst
    iexact Fz1_dst
  sl_exec
  sl_step
  ihave Ux := (join_tok c xM X (Ring.bk 32 k.val) (Ring.sl 2 k.val)) $$ [Fx0_src Fx1_src Rx]
  · isplitl [Fx0_src]; · iexact Fx0_src
    isplitl [Fx1_src]; · iexact Fx1_src
    iexact Rx
  ihave Uy := (join_tok c yM Y (Ring.bk 32 k.val) (Ring.sl 2 k.val)) $$ [Fy0_src Fy1_src Ry]
  · isplitl [Fy0_src]; · iexact Fy0_src
    isplitl [Fy1_src]; · iexact Fy1_src
    iexact Ry
  ihave Uz := (join_tok c zM Z (Ring.bk 32 k.val) (Ring.sl 2 k.val)) $$ [Fz0_src Fz1_src Rz]
  · isplitl [Fz0_src]; · iexact Fz0_src
    isplitl [Fz1_src]; · iexact Fz1_src
    iexact Rz
  isplitl [HO]
  · iexists _
    isplitl [HO]; · iexact HO
    ipureintro
    have hv : lastRun.sl.r_8 c X Y Z k = shapeCast S1x1x32 (poolAt c X Y Z (Ring.bk 32 k.val)) shapeCasts_S32_S1x1x32 := by
      unfold lastRun.sl.r_8 lastRun.sl.r_2 lastRun.sl.r_5 lastRun.sl.r_6 lastRun.sl.r_7 lastRun.sl.r_3 lastRun.sl.r_4 lastRun.sl.r lastRun.sl.r_1
      rw [show lastRun.sl.v131 c X k = ev (chunkVal c xM X (Ring.bk 32 k.val)) from readCov_whole _ _ _,
        show lastRun.sl.v134 c X k = od (chunkVal c xM X (Ring.bk 32 k.val)) from readCov_whole _ _ _,
        show lastRun.sl.v189 c Y k = ev (chunkVal c yM Y (Ring.bk 32 k.val)) from readCov_whole _ _ _,
        show lastRun.sl.v192 c Y k = od (chunkVal c yM Y (Ring.bk 32 k.val)) from readCov_whole _ _ _,
        show lastRun.sl.v247 c Z k = ev (chunkVal c zM Z (Ring.bk 32 k.val)) from readCov_whole _ _ _,
        show lastRun.sl.v250 c Z k = od (chunkVal c zM Z (Ring.bk 32 k.val)) from readCov_whole _ _ _]
      exact pay_eq _ _ _
    rw [hv]
    exact good_succ c X Y Z arg3 k fo hg _
  isplitl [HW]; · iexists _; iexact HW
  isplitl [Bx By Bz Ux Uy Uz]
  · isplitl [Bx Ux]
    · isplitl [Bx]; · iexists _; iexact Bx
      iexact Ux
    isplitl [By Uy]
    · isplitl [By]; · iexists _; iexact By
      iexact Uy
    isplitl [Bz]; · iexists _; iexact Bz
    iexact Uz
  isplitl [Fx0]; · iexact Fx0
  isplitl [Fx1]; · iexact Fx1
  isplitl [Fy0]; · iexact Fy0
  isplitl [Fy1]; · iexact Fy1
  isplitl [Fz0]; · iexact Fz0
  iexact Fz1

end Trip

end Cert.Proof.IdealRun

end
-- ==== Proof.Ideal.Body.lean ====
/-
  The kernel's body: the prologue starts chunk 0 into slot 0, the loop keeps one chunk in flight while it pools the
  other, and the epilogue scales each row by its norm.
-/
module

public import proofs.«01_k».proof.Proof.Ideal.Trip

@[expose] public section

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

variable (c : Dev nD) (X : Buf (Elt F) (xM.view.loc (c : Thread nD τ))) (Y : Buf (Elt F) (yM.view.loc (c : Thread nD τ)))
  (Z : Buf (Elt F) (zM.view.loc (c : Thread nD τ)))
  (arg3 : Memref sig .tc .vmem S4x8x32 .f32) (harg3 : arg3.IsWhole)

/-- Chunk `k` in flight while there is one, else its slot idle. -/
def aheadP (k : ℕ) : sProp 𝕄 := if k < 32 then flightsP c X Y Z (Ring.bk 32 k) (Ring.sl 2 k) else idleP c X Y Z (Ring.sl 2 k)

theorem aheadP_lt {k : ℕ} (h : k < 32) : aheadP c X Y Z k = flightsP c X Y Z (Ring.bk 32 k) (Ring.sl 2 k) := if_pos h
theorem aheadP_ge {k : ℕ} (h : ¬ k < 32) : aheadP c X Y Z k = idleP c X Y Z (Ring.sl 2 k) := if_neg h

/-- Before trip `k`: the rows of the chunks before it stored, its chunk in flight, the other slot idle. -/
def inv (k : ℕ) (_ : Unit) : sProp 𝕄 :=
  iprop((∃ f, oP c arg3 f ∗ ⌜Good c X Y Z arg3 k f⌝) ∗ (∃ W, owes (c : Thread nD τ) 0 W)
    ∗ aheadP c X Y Z k ∗ idleP c X Y Z (Ring.sl 2 (k + 1)))

theorem sl_two (k : ℕ) : Ring.sl 2 (k + 1 + 1) = Ring.sl 2 k := Fin.ext (by simp [Ring.sl, Fin.ofNat]; omega)

theorem inv_step (k : Fin k0_t1_loop.trips) (acc : Unit) :
    inv c X Y Z arg3 k.val acc ⊢ wp frame (wpE (defs₀ (F := F)) 𝒱₀ (c : Thread nD τ) none) Set.univ (tripG arg3 harg3 k)
      (inv c X Y Z arg3 (k.val + 1)) := by
  have hk := trip_lt k
  unfold inv
  rw [aheadP_lt c X Y Z hk]
  by_cases hk1 : k.val + 1 < 32
  · iintro ⟨⟨%f, HO, %hg⟩, HW, HF, HI⟩
    iapply (wp_wand_r Idealize.ShloMosaic.frame (wpE (defs₀ (F := F)) 𝒱₀ (c : Thread nD τ) none) Set.univ)
    isplitl [HO HW HF HI]
    · iapply (tripRun c X Y Z arg3 harg3 k hk1 f hg)
      isplitl [HO]; · iexact HO
      isplitl [HW]; · iexact HW
      isplitl [HF]; · iexact HF
      iexact HI
    · iintro %_ ⟨HO, HW, HF, HI⟩
      rw [aheadP_lt c X Y Z hk1, sl_two]
      isplitl [HO]; · iexact HO
      isplitl [HW]; · iexact HW
      isplitl [HF]; · iexact HF
      iexact HI
  · iintro ⟨⟨%f, HO, %hg⟩, HW, HF, HI⟩
    iapply (wp_wand_r Idealize.ShloMosaic.frame (wpE (defs₀ (F := F)) 𝒱₀ (c : Thread nD τ) none) Set.univ)
    isplitl [HO HW HF]
    · iapply (lastRun c X Y Z arg3 harg3 k hk1 f hg)
      isplitl [HO]; · iexact HO
      isplitl [HW]; · iexact HW
      iexact HF
    · iintro %_ ⟨HO, HW, HI'⟩
      rw [aheadP_ge c X Y Z hk1, sl_two]
      isplitl [HO]; · iexact HO
      isplitl [HW]; · iexact HW
      isplitl [HI]; · iexact HI
      iexact HI'

/-- The pooled features of all the chunks. -/
def rows : FVec F S4x8x32 .f32 := fun i => poolAt c X Y Z (Ring.bk 32 ((i 0).val * 8 + (i 1).val)) (chan i)

theorem good_all (f : Buf (Elt F) (arg3.view.loc (c : Thread nD τ))) (h : Good c X Y Z arg3 32 f) : arg3.view.read (Elt F) f = rows c X Y Z :=
  funext fun i => h i (by
    have h0 : (i 0).val < 4 := (i 0).isLt
    have h1 : (i 1).val < 8 := (i 1).isLt
    omega)

/-- The staged block at contents that read `R` is the block at `R`. -/
theorem oP_rep (f : Buf (Elt F) (arg3.view.loc (c : Thread nD τ))) (R : S4x8x32.Idx → Elt F .f32) (h : arg3.view.read (Elt F) f = R) :
    oP (F := F) c arg3 f ⊢ oP c arg3 (arg3.view.rep R) := by
  subst h; exact pointsTo_rep_entails (c : Thread nD τ) arg3 f fullShare

abbrev allR : Rect S4x8x32 := Rect.unit (s := S4x8x32) ![0, 0, 0] S4x8x32.size inb_S4x8x32_S4x8x32_0_0_0

theorem allR_coord (y : S4x8x32.Idx) (a : Fin 3) : (y a).val = allR.off a + allR.stride a * (y a).val := by
  match a with
  | ⟨0, _⟩ => show _ = 0 + 1 * _; omega
  | ⟨1, _⟩ => show _ = 0 + 1 * _; omega
  | ⟨2, _⟩ => show _ = 0 + 1 * _; omega

/-- The epilogue's store over the block it loaded: the block scaled. -/
theorem read_scaled (R : S4x8x32.Idx → Elt F .f32) :
    arg3.view.read (Elt F) (arg3.view.writes (Elt F) (arg3.view.rep R) [⟨allR, k0_pay1 (arg3.view.readAt (Elt F) allR.toLoadRect (arg3.view.rep R))⟩])
      = k0_pay1 R := by
  have hl : arg3.view.readAt (Elt F) allR.toLoadRect (arg3.view.rep R) = R := by
    rw [View.readAt_rep]
    exact funext fun y => congrArg R (funext fun a => Fin.ext (allR_coord y a).symm)
  rw [hl]
  exact funext fun y => View.read_writes_cons_hit_of_coords arg3.view _ allR _ [] y y (allR_coord y)

abbrev bodyG : Prog (TpuEff nD τ sig (Elt F) Λ₀ .tc) PUnit :=
  cc0__body (F := F) xM (Memref.isWhole_whole _) yM (Memref.isWhole_whole _) zM (Memref.isWhole_whole _) arg3 harg3
    xB (Memref.isWhole_whole _) yB (Memref.isWhole_whole _) zB (Memref.isWhole_whole _) cc0_scratch3

theorem bodyRun (gO : Buf (Elt F) (arg3.view.loc (c : Thread nD τ))) (W : Waits sig Unit) (Q : PUnit → sProp 𝕄) :
    iprop((oP c arg3 gO ∗ owes (c : Thread nD τ) 0 W ∗ idleP c X Y Z 0 ∗ idleP c X Y Z 1)
        ∗ ((oP c arg3 (arg3.view.rep (k0_pay1 (rows c X Y Z))) ∗ (∃ W, owes (c : Thread nD τ) 0 W) ∗ idleP c X Y Z 0 ∗ idleP c X Y Z 1) -∗ Q ⟨⟩))
      ⊢ wp frame (wpE (defs₀ (F := F)) 𝒱₀ (c : Thread nD τ) none) Set.univ (bodyG arg3 harg3) Q := by
  iintro ⟨⟨HO, HW, ⟨⟨⟨⟨%gx, Gx⟩, Tx⟩, ⟨⟨%gy, Gy⟩, Ty⟩, ⟨%gz, Gz⟩, Tz⟩, C0, C1, C2, C3, C4, C5⟩, HI⟩, Hk⟩
  ihave Gx' := (split_slot c xB 0 gx) $$ Gx
  icases Gx' with ⟨Gx0, Gx1⟩
  ihave Gy' := (split_slot c yB 0 gy) $$ Gy
  icases Gy' with ⟨Gy0, Gy1⟩
  ihave Gz' := (split_slot c zB 0 gz) $$ Gz
  icases Gz' with ⟨Gz0, Gz1⟩
  ihave Tx' := (split_tok c xM X 0 0) $$ Tx
  icases Tx' with ⟨Sx0, Sx1, Nx⟩
  ihave Ty' := (split_tok c yM Y 0 0) $$ Ty
  icases Ty' with ⟨Sy0, Sy1, Ny⟩
  ihave Tz' := (split_tok c zM Z 0 0) $$ Tz
  icases Tz' with ⟨Sz0, Sz1, Nz⟩
  sl_exec
  sl_for (inv c X Y Z arg3) $$ [HO HW HI C0 C1 C2 C3 C4 C5 Nx Ny Nz]
  case region => exact inv_step c X Y Z arg3 harg3
  · unfold inv
    rw [aheadP_lt c X Y Z (by decide), show Ring.bk 32 0 = 0 from rfl, show Ring.sl 2 0 = 0 from rfl, show Ring.sl 2 (0 + 1) = 1 from rfl]
    isplitl [HO]
    · iexists gO
      isplitl [HO]; · iexact HO
      ipureintro; exact good_zero c X Y Z arg3 gO
    isplitl [HW]; · iexists _; iexact HW
    isplitl [C0 C1 C2 C3 C4 C5 Nx Ny Nz]
    · isplitl [C0 C1 Nx]
      · isplitl [C0]; · iexists _; iexact C0
        isplitl [C1]; · iexists _; iexact C1
        iexact Nx
      isplitl [C2 C3 Ny]
      · isplitl [C2]; · iexists _; iexact C2
        isplitl [C3]; · iexists _; iexact C3
        iexact Ny
      isplitl [C4]; · iexists _; iexact C4
      isplitl [C5]; · iexists _; iexact C5
      iexact Nz
    iexact HI
  iintro %_ H
  unfold inv
  rw [show Scf.trips k0_t1_loop.lb k0_t1_loop.ub k0_t1_loop.st = 32 from trips_eq, aheadP_ge c X Y Z (by decide), show Ring.sl 2 32 = 0 from rfl, show Ring.sl 2 (32 + 1) = 1 from rfl]
  icases H with ⟨⟨%f, HO, %hg⟩, HW, H0, H1⟩
  ihave HO' := (oP_rep c arg3 f _ (good_all c X Y Z arg3 f hg)) $$ HO
  sl_exec
  sl_step
  iapply Hk
  isplitl [HO']
  · iapply (oP_rep c arg3 _ _ (read_scaled arg3 (rows c X Y Z)))
    iexact HO'
  isplitl [HW]; · iexact HW
  isplitl [H0]; · iexact H0
  iexact H1

end Cert.Proof.IdealRun

end
-- ==== Proof.Ideal.Run.lean ====
/-
  The launch: at entry the double buffers are cut into slots and each array's ownership into one share per slot, at exit
  they are joined back; the run's frame, and the result's value.
-/
module

public import proofs.«01_k».proof.Proof.Ideal.Body
public import proofs.«01_k».proof.Proof.Gen.KernelIdeal.Frame

@[expose] public section

set_option maxRecDepth 16384

noncomputable section

namespace Cert.Proof.IdealRun

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UU nD τ) ℕ

/-! ## A double buffer as its two slots -/

theorem slotE_eq (B : BufM) (s : Fin 2) (w : S32x32x8x128.Idx) :
    slotE B s w = B.view.emb ((Rect.unit (s := S2x32x32x8x128) (slotOff s) S1x32x32x8x128.size (slotOff_inb s)).emb (Fin.cons ⟨0, Nat.one_pos⟩ w)) := by
  show B.view.emb ((Rect.unit (s := S2x32x32x8x128) (slotOff s) S1x32x32x8x128.size (slotOff_inb s)).emb (Shape.reshapeEquiv _ w)) = _
  rw [Shape.reshapeEquiv_cons_one]

theorem slots_disj (B : BufM) : Disjoint (slotS B 0) (slotS B 1) := by
  rw [Finset.disjoint_left]
  intro i h0 h1
  obtain ⟨y, rfl⟩ := mem_slotS.mp h0
  obtain ⟨y', hy⟩ := mem_slotS.mp h1
  rw [slotE_eq, slotE_eq] at hy
  have e : (1 + 1 * 0 : ℕ) = 0 + 1 * 0 := congrArg (fun j : S2x32x32x8x128.Idx => (j 0 : ℕ)) (B.view.emb.injective hy)
  omega

theorem slots_union (B : BufM) : B.view.set = slotS B 0 ∪ slotS B 1 := by
  apply Finset.Subset.antisymm
  · intro i hi
    obtain ⟨j, -, rfl⟩ := Finset.mem_map.mp hi
    have l0 : (j 0).val < 2 := (j 0).isLt
    have key : ∀ s : Fin 2, (j 0).val = s.val → B.view.emb j ∈ slotS B s := fun s hs => by
      let w : S32x32x8x128.Idx := fun a => j a.succ
      refine mem_slotS.mpr ⟨w, (slotE_eq B s w).trans (congrArg B.view.emb ?_)⟩
      funext a
      apply Fin.ext
      rw [Rect.emb_apply]
      match a with
      | ⟨0, _⟩ => show s.val + 1 * 0 = (j 0).val; omega
      | ⟨1, _⟩ => show 0 + 1 * (j 1).val = (j 1).val; omega
      | ⟨2, _⟩ => show 0 + 1 * (j 2).val = (j 2).val; omega
      | ⟨3, _⟩ => show 0 + 1 * (j 3).val = (j 3).val; omega
      | ⟨4, _⟩ => show 0 + 1 * (j 4).val = (j 4).val; omega
    rw [Finset.mem_union]
    by_cases h : (j 0).val = 0
    · exact Or.inl (key 0 h)
    · exact Or.inr (key 1 (by show (j 0).val = 1; omega))
  · refine Finset.union_subset ?_ ?_ <;> intro i hi <;> obtain ⟨w, rfl⟩ := mem_slotS.mp hi <;> rw [slotE_eq] <;> exact View.emb_mem_set _ _

section Split
variable (c : Dev nD)

theorem buf_split (B : BufM) : iprop(∃ f, B.view.loc (c : Thread nD τ) ↦[B.view.set]{fullShare} f)
    ⊢ (iprop((∃ f, slotP c B 0 f) ∗ ∃ f, slotP c B 1 f) : sProp 𝕄) := by
  rw [slots_union B]
  iintro ⟨%f, H⟩
  ihave H2 := (pointsTo_union (slots_disj B)).1 $$ H
  icases H2 with ⟨H0, H1⟩
  isplitl [H0]
  · iexists f; iexact H0
  · iexists f; iexact H1

theorem buf_join (B : BufM) : iprop((∃ f, slotP c B 0 f) ∗ ∃ f, slotP c B 1 f)
    ⊢ (iprop(∃ f, B.view.loc (c : Thread nD τ) ↦[B.view.set]{fullShare} f) : sProp 𝕄) := by
  rw [slots_union B]
  iintro ⟨⟨%f, H0⟩, ⟨%g, H1⟩⟩
  iexists _
  iapply (pointsTo_join (slots_disj B))
  isplitl [H0]; · iexact H0
  iexact H1

theorem tok_halves (A : ArrM) (X : Buf (Elt F) (A.view.loc (c : Thread nD τ))) :
    (A.view.loc (c : Thread nD τ) ↦[A.view.set]{fullShare} X : sProp 𝕄) ⊣⊢ iprop(tokP c A X 0 ∗ tokP c A X 1) :=
  pointsTo_share (PosShare.mem_left_op_right fullShare)

/-- One buffer and its array whole are the two idle slots, -/
theorem arr_in (A : ArrM) (X : Buf (Elt F) (A.view.loc (c : Thread nD τ))) (B : BufM) :
    iprop((∃ f, B.view.loc (c : Thread nD τ) ↦[B.view.set]{fullShare} f) ∗ A.view.loc (c : Thread nD τ) ↦[A.view.set]{fullShare} X)
      ⊢ (iprop(arrIdle c A X B 0 ∗ arrIdle c A X B 1) : sProp 𝕄) := by
  iintro ⟨HB, HA⟩
  ihave HB' := (buf_split c B) $$ HB
  icases HB' with ⟨HB0, HB1⟩
  ihave HA' := (tok_halves c A X).1 $$ HA
  icases HA' with ⟨HA0, HA1⟩
  isplitl [HB0 HA0]
  · isplitl [HB0]; · iexact HB0
    iexact HA0
  · isplitl [HB1]; · iexact HB1
    iexact HA1
/-- and back. -/
theorem arr_out (A : ArrM) (X : Buf (Elt F) (A.view.loc (c : Thread nD τ))) (B : BufM) :
    iprop(arrIdle c A X B 0 ∗ arrIdle c A X B 1)
      ⊢ (iprop((∃ f, B.view.loc (c : Thread nD τ) ↦[B.view.set]{fullShare} f) ∗ A.view.loc (c : Thread nD τ) ↦[A.view.set]{fullShare} X) : sProp 𝕄) := by
  iintro ⟨⟨HB0, HA0⟩, ⟨HB1, HA1⟩⟩
  isplitl [HB0 HB1]
  · iapply (buf_join c B)
    isplitl [HB0]; · iexact HB0
    iexact HB1
  · iapply (tok_halves c A X).2
    isplitl [HA0]; · iexact HA0
    iexact HA1

end Split

/-! ## The kernel's own semaphores -/

abbrev osem : Fin 6 × Fin 2 → SemLoc sig := fun p => .dma (cell p.1 p.2).sem
theorem ownSemFacts : Pipeline.OwnSemFacts spec0 osem := by decide

/-- They are the two slots' cells. -/
theorem ownSems0_iff (c : Dev nD) : (Pipeline.ownSems0 (Ix := Unit) (Name := ℕ) (U := UU nD τ) (Lvl := ℕ) (Val := Elt F) (τ := τ) osem c : sProp 𝕄)
    ⊣⊢ iprop(cellsP c 0 ∗ cellsP c 1) := by
  have e : (Pipeline.ownSems0 (Ix := Unit) (Name := ℕ) (U := UU nD τ) (Lvl := ℕ) (Val := Elt F) (τ := τ) osem c : sProp 𝕄)
      = iprop(cellP c 0 0 ∗ cellP c 1 0 ∗ cellP c 2 0 ∗ cellP c 3 0 ∗ cellP c 4 0 ∗ cellP c 5 0 ∗ cellsP c 1) :=
    bigSep_univ_eq_bigSepL [((0, 0) : Fin 6 × Fin 2), (1, 0), (2, 0), (3, 0), (4, 0), (5, 0), (0, 1), (1, 1), (2, 1), (3, 1), (4, 1), (5, 1)]
      (by decide) (by decide) _
  rw [e]
  refine ⟨?_, ?_⟩
  · iintro ⟨C0, C1, C2, C3, C4, C5, D⟩
    isplitr [D]
    · isplitl [C0]; · iexact C0
      isplitl [C1]; · iexact C1
      isplitl [C2]; · iexact C2
      isplitl [C3]; · iexact C3
      isplitl [C4]; · iexact C4
      iexact C5
    iexact D
  · iintro ⟨⟨C0, C1, C2, C3, C4, C5⟩, D⟩
    isplitl [C0]; · iexact C0
    isplitl [C1]; · iexact C1
    isplitl [C2]; · iexact C2
    isplitl [C3]; · iexact C3
    isplitl [C4]; · iexact C4
    isplitl [C5]; · iexact C5
    iexact D

/-! ## The pipeline's proof data -/

section Launch

variable (m : (ℓ : Loc nD τ sig) → Buf (Elt F) ℓ) (ρ : Dev nD → PrngReg)

abbrev Xv (c : Dev nD) : Buf (Elt F) (xM.view.loc (c : Thread nD τ)) := V m c main_v0
abbrev Yv (c : Dev nD) : Buf (Elt F) (yM.view.loc (c : Thread nD τ)) := V m c main_v1
abbrev Zv (c : Dev nD) : Buf (Elt F) (zM.view.loc (c : Thread nD τ)) := V m c main_v2

/-- The region's invariant: both slots idle. -/
def Φ (c : Dev nD) : sProp 𝕄 :=
  iprop((∃ r, prngReg c r) ∗ idleP c (Xv m c) (Yv m c) (Zv m c) 0 ∗ idleP c (Xv m c) (Yv m c) (Zv m c) 1)

/-- The output block the body leaves. -/
def outBlk (c : Dev nD) : FVec F S4x8x32 .f32 := k0_pay1 (rows c (Xv m c) (Yv m c) (Zv m c))

def dats (_ : Fin 1) (c : Dev nD) : Dat τ (Elt F) Unit ℕ (UU nD τ) ℕ cfg0 c where
  A w := V m c (Pipeline.arrRef spec0 w)
  after w t := match w with
    | ⟨0, _⟩ => outBlk m c
  Φ _ := Φ m c
  q _ := fullShare
  owed _ := 0

theorem after_w0 (c : Dev nD) (t : Fin cfg0.N) : (dats m 0 c).after 0 t = outBlk m c := by dsimp only [dats]

theorem defs_tc : (defs₀ (F := F)) .tc cfg0.body = fun a => bodyG (win0_0.stage (a.2 0)) (hstage0_0 0) := rfl
theorem prog_eq (t : Fin cfg0.N) : (defs₀ (F := F)) .tc cfg0.body (cfg0.bodyArgs t (cfg0.slots t)) = bodyG (st0_0 t) (hstage0_0 0) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [after_w0]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns Φ
  iintro ⟨⟨HR, H0, H1⟩, ⟨%W, -, HW⟩, ⟨%d, %gO, -, HO⟩⟩
  sl_rw [prog_eq t]
  iapply (bodyRun c (Xv m c) (Yv m c) (Zv m c) (st0_0 t) (hstage0_0 0) gO W)
  isplitl [HO HW H0 H1]
  · isplitl [HO]; · iexact HO
    isplitl [HW]; · iexact HW
    isplitl [H0]; · iexact H0
    iexact H1
  · iintro ⟨HO, ⟨%W', HW⟩, H0, H1⟩
    isplitl [HR H0 H1]
    · isplitl [HR]; · iexact HR
      isplitl [H0]; · iexact H0
      iexact H1
    isplitl [HW]
    · iexists W'; isplitr; · ipureintro; exact fun _ _ => Or.inl trivial
      iexact HW
    iexists _; isplitr; · ipureintro; exact View.read_rep _ _
    iexact HO

/-! ## The run -/

/-- The arrays the body reads by its own transfers. -/
abbrev inH : Finset (Ref sig .tc) := {main_v0, main_v1, main_v2}

theorem inH_eq (c : Dev nD) (Vc : (b : Ref sig .tc) → Buf (Elt F) ((c : Thread nD τ).loc b)) :
    (bigSep inH fun b => (((c : Thread nD τ).loc b) ↦{fullShare} Vc b) : sProp 𝕄)
      = iprop((((c : Thread nD τ).loc main_v0) ↦{fullShare} Vc main_v0) ∗ (((c : Thread nD τ).loc main_v1) ↦{fullShare} Vc main_v1)
        ∗ (((c : Thread nD τ).loc main_v2) ↦{fullShare} Vc main_v2)) := by
  rw [bigSep_insert (by decide), bigSep_insert (by decide), bigSep_singleton]; rfl

theorem phi_in (c : Dev nD) : (Pipeline.ΦD osem spec0 inH (fun c b => V m c b) c : sProp 𝕄) ⊢ Φ m c := by
  rw [Pipeline.ΦD_eq, scopedRest0_eq, inH_eq]
  unfold Φ
  iintro ⟨⟨Bx, By, Bz⟩, HR, HS, Ax, Ay, Az⟩
  ihave HS' := (ownSems0_iff c).1 $$ HS
  icases HS' with ⟨C, D⟩
  ihave Ix := (arr_in c xM (Xv m c) xB) $$ [Bx Ax]
  · rw [View.set_whole, View.set_whole]
    isplitl [Bx]; · iexact Bx
    iexact Ax
  ihave Iy := (arr_in c yM (Yv m c) yB) $$ [By Ay]
  · rw [View.set_whole, View.set_whole]
    isplitl [By]; · iexact By
    iexact Ay
  ihave Iz := (arr_in c zM (Zv m c) zB) $$ [Bz Az]
  · rw [View.set_whole, View.set_whole]
    isplitl [Bz]; · iexact Bz
    iexact Az
  icases Ix with ⟨Ix0, Ix1⟩
  icases Iy with ⟨Iy0, Iy1⟩
  icases Iz with ⟨Iz0, Iz1⟩
  isplitl [HR]; · iexact HR
  isplitl [Ix0 Iy0 Iz0 C]
  · isplitr [C]
    · isplitl [Ix0]; · iexact Ix0
      isplitl [Iy0]; · iexact Iy0
      iexact Iz0
    iexact C
  · isplitr [D]
    · isplitl [Ix1]; · iexact Ix1
      isplitl [Iy1]; · iexact Iy1
      iexact Iz1
    iexact D

theorem phi_out (c : Dev nD) : Φ m c ⊢ (Pipeline.ΦD osem spec0 inH (fun c b => V m c b) c : sProp 𝕄) := by
  have hx := arr_out c xM (Xv m c) xB
  have hy := arr_out c yM (Yv m c) yB
  have hz := arr_out c zM (Zv m c) zB
  rw [View.set_whole, View.set_whole] at hx hy hz
  rw [Pipeline.ΦD_eq, scopedRest0_eq, inH_eq]
  unfold Φ
  iintro ⟨HR, ⟨⟨Ix0, Iy0, Iz0⟩, C⟩, ⟨Ix1, Iy1, Iz1⟩, D⟩
  ihave Hx := hx $$ [Ix0 Ix1]
  · isplitl [Ix0]; · iexact Ix0
    iexact Ix1
  ihave Hy := hy $$ [Iy0 Iy1]
  · isplitl [Iy0]; · iexact Iy0
    iexact Iy1
  ihave Hz := hz $$ [Iz0 Iz1]
  · isplitl [Iz0]; · iexact Iz0
    iexact Iz1
  icases Hx with ⟨Bx, Ax⟩
  icases Hy with ⟨By, Ay⟩
  icases Hz with ⟨Bz, Az⟩
  isplitl [Bx By Bz]
  · isplitl [Bx]; · iexact Bx
    isplitl [By]; · iexact By
    iexact Bz
  isplitl [HR]; · iexact HR
  isplitl [C D]
  · iapply (ownSems0_iff c).2
    isplitl [C]; · iexact C
    iexact D
  isplitl [Ax]; · iexact Ax
  isplitl [Ay]; · iexact Ay
  iexact Az

theorem tail_sub : ∀ ops ∈ ([hostOps1] : List (List (HloOp τ sig (Elt F)))), ∀ op ∈ ops,
    op.bufs ⊆ Pipeline.tailRefsBut sig Pipeline.Prefetch.none spec0 inH := by
  intro ops hops op hop
  rw [List.mem_singleton] at hops
  subst hops
  refine Pipeline.sub_tailRefsBut _ _ _ op ((List.forall_iff_forall_mem.mp hostOps1_sub) op hop) (fun k => k.elim0) ?_
  rw [hostOps1, List.mem_singleton] at hop
  subst hop
  intro b hb
  simp only [StableHlo.reshape_bufs, Finset.mem_insert, Finset.mem_singleton] at hb ⊢
  rcases hb with rfl | rfl | rfl <;> exact not_or.mpr ⟨StableHlo.devRef_ne_of_ne (by decide), StableHlo.devRef_ne_of_ne (by decide)⟩

/-- What a buffer outside the region's arrays holds at the end. -/
abbrev endV (c : Dev nD) (b : Ref sig .tc) : Buf (Elt F) ((c.tc : Thread nD τ).loc b) := Pipeline.afterTail₀ cfgs (dats m) 0 (V0 m) [hostOps1] c b

set_option maxHeartbeats 800000 in
set_option backward.isDefEq.respectTransparency.types false in
theorem run_main : θ_run defs (onTc (τ := τ) (main (F := F))) (s₀ m ρ)
    (fun r => Pipeline.FramePost cfgs (dats m) 0 (endV m) r ∧ r.2.sem = fun _ => 0) :=
  Pipeline.θ_run_frame_dma_around cfgs (dats m) 0 launch0 osem defs₀ 𝒱₀ ownSemFacts inH (by decide) m ρ main
    (hbody := fun c => (body_obligation m c).loose) (hshare := fun c => (dats m 0 c).share_full fun _ => rfl)
    (howed := fun _ _ => rfl) (V₀ := V0 m) (opss := [hostOps1])
    (hsub := tail_sub) (hfresh := sfx_fresh) (hkeep := sfx_keeps)
    (hmain := Pipeline.hmain_around cfgs 0 defs₀ 𝒱₀ m main [hostOps0] [hostOps1] (by simp only [List.Forall]; exact hostOps0_sub)
      (by simp only [List.Forall]; exact hostOps0_fresh) main_chain)
    (hA := fun _ _ => rfl) (hin := phi_in m) (hout := phi_out m)
    (Q' := fun r => Pipeline.FramePost cfgs (dats m) 0 (endV m) r ∧ r.2.sem = fun _ => 0) (hQ' := fun _ h => h)

/-- An argument is as launched when the region is entered and in no line after it: it ends as launched. -/
theorem endV_arg (c : Dev nD) (b : Ref sig .tc) (hb : b ≠ main_v4) (ha : ∀ w, Pipeline.arrRef spec0 w ≠ b)
    (hV : V m c b = m ((c : Thread nD τ).loc b)) : endV m c b = m ((c : Thread nD τ).loc b) := by
  unfold endV Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne hb)), Pipeline.withArrays_of_ne _ c (V0 m c) _ b ha]
  exact hV

/-- The run: the result at `endV`, the arguments as launched, every counter at zero. -/
theorem run_values : θ_run defs (onTc (τ := τ) (main (F := F))) ⟨m, fun _ => 0, ρ⟩ (fun r =>
    (∀ c : Dev nD, r.2.mem ((c.tc : Thread nD τ).loc main_v4) = endV m c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
    ⟨(h.1 c).2 main_v4 (Pipeline.mem_restRefs_of main_v4 (by decide) (by decide)),
      ((h.1 c).2 main_arg0 (Pipeline.mem_restRefs_of main_arg0 (by decide) (by decide))).trans (endV_arg m c main_arg0 (by decide) (by decide) (V_main_arg0 m c)),
      ((h.1 c).2 main_arg1 (Pipeline.mem_restRefs_of main_arg1 (by decide) (by decide))).trans (endV_arg m c main_arg1 (by decide) (by decide) (V_main_arg1 m c)),
      ((h.1 c).2 main_arg2 (Pipeline.mem_restRefs_of main_arg2 (by decide) (by decide))).trans (endV_arg m c main_arg2 (by decide) (by decide) (V_main_arg2 m c))⟩,
    h.2⟩) (run_main m ρ)

end Launch

end Cert.Proof.IdealRun

end
-- ==== Proof.Bits.lean ====
/-
  The kernel's own frame. The program as printed and the program read at the ideal instance are one text, and the run is
  proved for every instance of the floats: at the bits it is the kernel's.
-/
module

public import proofs.«01_k».proof.Defs
public import proofs.«01_k».proof.Proof.Gen.Kernel
public import proofs.«01_k».proof.Proof.Ideal.Run

@[expose] public section

set_option maxRecDepth 100000

noncomputable section

namespace Cert.Proof

open Idealize.ShloMosaic Idealize.ShloMosaic.TcCoe Idealize.SL.Sem

/-- The frame for every instance of the floats. -/
theorem frame_any {F : FTy → Type} [FloatOps F] (m : (ℓ : Loc KernelIdeal.nD KernelIdeal.τ KernelIdeal.sig) → Buf (Elt F) ℓ)
    (g : Dev KernelIdeal.nD → PrngReg) :
    θ_run (KernelIdeal.defs (F := F)) (onTc (τ := KernelIdeal.τ) (KernelIdeal.main (F := F))) ⟨m, fun _ => 0, g⟩ (fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2))
      ∧ r.2.sem = fun _ => 0) :=
  (θ_run _ _ _).mono (fun _ h => ⟨fun c => ⟨(h.1 c).2.1, (h.1 c).2.2.1, (h.1 c).2.2.2⟩, h.2⟩) (IdealRun.run_values m g)

/-! ## The two programs are one -/

section Same
variable {F : FTy → Type} [FloatOps F]

theorem body_same : @Kernel.cc0__body F _ _ = @KernelIdeal.cc0__body F _ _ := rfl

theorem defs₀_same : Kernel.defs₀ (F := F) = KernelIdeal.defs₀ (F := F) := by
  unfold Kernel.defs₀ KernelIdeal.defs₀
  refine congrArg (Defs.onTc (nD := Kernel.nD) (τ := Kernel.τ) (sig := Kernel.sig) (Val := Elt F) (Λ := Kernel.Λ₀)) ?_
  funext l a
  match l, a with
  | 0, (t, s) =>
    dsimp only
    rw [body_same]

theorem defs_same : Kernel.defs (F := F) = KernelIdeal.defs (F := F) := congrArg (Pipeline.defs Kernel.pcfgs) defs₀_same

theorem main_same : Kernel.main (F := F) = KernelIdeal.main (F := F) := rfl

end Same

theorem frame_Kernel : Cert.quiescent_Kernel := fun m g _ => by
  rw [defs_same, main_same]
  exact frame_any (F := Bits) m g

theorem frame_KernelIdeal : Cert.quiescent_KernelIdeal := fun m g _ => frame_any (F := Ideal) m g

end Cert.Proof

end
-- ==== Proof.RefFrame.lean ====
/-
  The reference's frame: it is host operations only, run by the generated module, and it has no semaphore.
-/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

theorem frame_ReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Proof

end
-- ==== Proof.Value.Cells.lean ====
/-
  The common value of the two programs, over the extended reals: a channel's cube of 32 × 32 × 32 elements is cut into
  16 × 16 × 16 cells of 2 × 2 × 2; a cell gives its maximum and an eighth of its sum; the channel's pooled value is the sum
  of what its cells give. With it the few facts of sums and constants both sides need.
-/
module

public import Idealize.ShloMosaic.Lib.Pointwise

@[expose] public section

set_option maxRecDepth 16384

noncomputable section

namespace Cert.Proof.Value

open Idealize.ShloMosaic

/-- The words both programs' constants are, read as extended reals. -/
def eighth : EReal := Ideal.ofBits .f32 0x3E000000#32
def eight : EReal := Ideal.ofBits .f32 0x41000000#32
def floorEps : EReal := Ideal.ofBits .f32 0x2B8CBCCC#32

theorem eighth_coe : eighth = (((8 : ℝ)⁻¹ : ℝ) : EReal) := by
  unfold eighth
  simp [Ideal.ofBits, Ideal.ieee, -EReal.coe_mul]; norm_num

theorem eight_coe : eight = ((8 : ℝ) : EReal) := by
  unfold eight
  simp [Ideal.ofBits, Ideal.ieee, -EReal.coe_mul]; norm_num

theorem floorEps_pos : 0 < floorEps := by
  unfold floorEps
  simp [Ideal.ofBits, Ideal.ieee, -EReal.coe_mul]

theorem negInf_word : Ideal.ofBits .f32 0xFF800000#32 = ⊥ := by
  simp [Ideal.ofBits, Ideal.ieee]

/-- Dividing by eight is multiplying by an eighth. -/
theorem div_eight (x : EReal) : Ideal.div x eight = x * eighth := by
  have h0 : eight ≠ 0 := by rw [eight_coe]; norm_num
  rw [Ideal.div, if_neg h0, eight_coe, eighth_coe, EReal.coe_inv]

/-- An eighth distributes over every sum, the infinite terms included. -/
theorem add_mul_eighth (x y : EReal) : (x + y) * eighth = x * eighth + y * eighth := by
  rw [eighth_coe]
  exact EReal.right_distrib_of_nonneg_of_ne_top (by exact_mod_cast (by norm_num : (0 : ℝ) ≤ 8⁻¹)) (EReal.coe_ne_top _) x y

/-- A quotient by a bounded-below norm, as the product with the norm's reciprocal. -/
theorem mul_div_one (x y : EReal) (h : 0 < y) : x * Ideal.div 1 y = Ideal.div x y := by
  rw [Ideal.div, Ideal.div, if_neg h.ne', if_neg h.ne', one_mul]

/-- Coordinate `e` of the pair that cell coordinate `h` covers. -/
def lo (h : Fin 16) : Fin 32 := ⟨2 * h.val, by omega⟩
def hi (h : Fin 16) : Fin 32 := ⟨2 * h.val + 1, by omega⟩

/-- A cell's maximum and its sum. -/
def cellMax (T : Fin 32 → Fin 32 → Fin 32 → EReal) (h w d : Fin 16) : EReal :=
  max (max (max (T (lo h) (lo w) (lo d)) (T (lo h) (lo w) (hi d))) (max (T (lo h) (hi w) (lo d)) (T (lo h) (hi w) (hi d))))
    (max (max (T (hi h) (lo w) (lo d)) (T (hi h) (lo w) (hi d))) (max (T (hi h) (hi w) (lo d)) (T (hi h) (hi w) (hi d))))
def cellSum (T : Fin 32 → Fin 32 → Fin 32 → EReal) (h w d : Fin 16) : EReal :=
  ((T (lo h) (lo w) (lo d) + T (lo h) (lo w) (hi d)) + (T (lo h) (hi w) (lo d) + T (lo h) (hi w) (hi d)))
    + ((T (hi h) (lo w) (lo d) + T (hi h) (lo w) (hi d)) + (T (hi h) (hi w) (lo d) + T (hi h) (hi w) (hi d)))

/-- What a cell gives, and a channel's pooled value. -/
def cell (T : Fin 32 → Fin 32 → Fin 32 → EReal) (h w d : Fin 16) : EReal := cellMax T h w d + cellSum T h w d * eighth
def pooled (T : Fin 32 → Fin 32 → Fin 32 → EReal) : EReal := ∑ h : Fin 16, ∑ w : Fin 16, ∑ d : Fin 16, cell T h w d

/-- A sum over `n * k` places is the sum over `n` runs of `k`. -/
theorem sum_runs {M : Type*} [AddCommMonoid M] {N : Nat} (n k : Nat) (hN : N = n * k) (f : Fin N → M) :
    ∑ l : Fin N, f l = ∑ i : Fin n, ∑ j : Fin k, f ⟨i.val * k + j.val, by
      have hi := i.isLt; have hj := j.isLt
      calc i.val * k + j.val < i.val * k + k := by omega
        _ = (i.val + 1) * k := by rw [Nat.add_mul, Nat.one_mul]
        _ ≤ n * k := Nat.mul_le_mul_right k hi
        _ = N := hN.symm⟩ := by
  subst hN
  rw [← finProdFinEquiv.sum_comp f, Fintype.sum_prod_type]
  refine Finset.sum_congr rfl fun i _ => Finset.sum_congr rfl fun j _ => congrArg f (Fin.ext ?_)
  show j.val + k * i.val = i.val * k + j.val
  rw [Nat.mul_comm, Nat.add_comm]

/-- A row of 128 lanes, four lanes to a cell: the even and the odd lane of a pair, and the same two 32 lanes on. -/
theorem sum_lanes {M : Type*} [AddCommMonoid M] (A : Fin 128 → M) :
    ∑ l : Fin 128, A l = ∑ p : Fin 2, ∑ d : Fin 16,
      ((A ⟨64 * p.val + 2 * d.val, by omega⟩ + A ⟨64 * p.val + 2 * d.val + 1, by omega⟩)
        + (A ⟨64 * p.val + 2 * d.val + 32, by omega⟩ + A ⟨64 * p.val + 2 * d.val + 33, by omega⟩)) := by
  rw [sum_runs 2 64 rfl]
  refine Finset.sum_congr rfl fun p _ => ?_
  rw [sum_runs 2 32 rfl (fun j : Fin 64 => A ⟨p.val * 64 + j.val, by omega⟩), Fin.sum_univ_two,
    sum_runs 16 2 rfl (fun j : Fin 32 => A ⟨p.val * 64 + ((0 : Fin 2).val * 32 + j.val), by have := j.isLt; simp only [Fin.val_zero]; omega⟩),
    sum_runs 16 2 rfl (fun j : Fin 32 => A ⟨p.val * 64 + ((1 : Fin 2).val * 32 + j.val), by have := j.isLt; simp only [Fin.val_one]; omega⟩),
    ← Finset.sum_add_distrib]
  refine Finset.sum_congr rfl fun d _ => ?_
  rw [Fin.sum_univ_two, Fin.sum_univ_two]
  refine congrArg₂ (· + ·) (congrArg₂ (· + ·) (congrArg A (Fin.ext ?_)) (congrArg A (Fin.ext ?_)))
    (congrArg₂ (· + ·) (congrArg A (Fin.ext ?_)) (congrArg A (Fin.ext ?_))) <;>
  simp only [Fin.val_zero, Fin.val_one] <;> omega

end Cert.Proof.Value

end
-- ==== Proof.Value.LaneSum.lean ====
/-
  The kernel's side of a channel: the sum over 16 × 8 × 128 places of the masked window maxima and of an eighth of both
  elements of the pair is the channel's pooled value. Row `g`'s lane `l` holds the element at second coordinate
  `4 g + l / 32` and third coordinate `l % 32`; the two rotations bring a lane its right neighbour and the lane 32 on, and the
  mask keeps the even lanes of the first and the third 32.
-/
module

public import proofs.«01_k».proof.Proof.Ideal.Payload
public import proofs.«01_k».proof.Proof.Value.Cells

@[expose] public section

set_option maxRecDepth 16384

noncomputable section

namespace Cert.Proof.Value

open Cert.KernelIdeal Cert.KernelIdeal.Gen Cert.Proof.IdealRun
open Idealize.ShloMosaic Idealize.ShloMosaic.TcCoe

/-- The mask over a row of lanes. -/
def mask : IVec S8x128 1 := andi k0_pay4 (cmpi .slt (select k0_pay6 k0_pay7 k0_pay5) (broadcast S8x128 32#32))

theorem mask_at : ∀ (g : Fin 8) (l : Fin 128), mask (ix2 g l) = if l.val % 2 = 0 ∧ l.val % 64 < 32 then 1#1 else 0#1 := by
  decide +kernel

/-- The sum over the three inner axes at a channel. -/
theorem sum_inner (v : FVec Ideal S32x16x8x128 .f32) (a : Fin 32) :
    Ideal.reduceAdd reduces_S32x16x8x128_S32 v (ix1 a) = ∑ h : Fin 16, ∑ g : Fin 8, ∑ l : Fin 128, v (ix4 a h g l) := by
  refine (Finset.sum_filter_eq_sum_of_fiber _ (fun k : Fin 16 × Fin 8 × Fin 128 => (ix4 a k.1 k.2.1 k.2.2 : S32x16x8x128.Idx))
    (fun _ _ e => Prod.ext (congrFun e 1) (Prod.ext (congrFun e 2) (congrFun e 3))) (fun i => ?_) v).trans ?_
  · constructor
    · intro e
      refine ⟨(i 1, i 2, i 3), ?_⟩
      funext b
      match b with
      | ⟨0, _⟩ => exact (congrFun e 0).symm
      | ⟨1, _⟩ => rfl
      | ⟨2, _⟩ => rfl
      | ⟨3, _⟩ => rfl
    · rintro ⟨k, rfl⟩
      funext b
      match b with
      | ⟨0, _⟩ => rfl
  · simp only [Fintype.sum_prod_type]

/-- The summand at a place. -/
theorem pay8_at (s mx : FVec Ideal S32x16x8x128 .f32) (a : Fin 32) :
    k0_pay8 (F := Ideal) s mx k0_pay4 k0_pay5 k0_pay6 k0_pay7 (ix1 a)
      = ∑ h : Fin 16, ∑ g : Fin 8, ∑ l : Fin 128,
          ((if l.val % 2 = 0 ∧ l.val % 64 < 32 then mx (ix4 a h g l) else 0) + s (ix4 a h g l) * eighth) := by
  refine (sum_inner (addf (select (broadcastTo S32x16x8x128 (shapeCast S1x1x8x128 mask shapeCasts_S8x128_S1x1x8x128) broadcasts_S1x1x8x128_S32x16x8x128)
      mx (broadcast S32x16x8x128 (Scalar.ofBits .f32 0x00000000#32))) (mulf s (broadcast S32x16x8x128 (Scalar.ofBits .f32 0x3E000000#32)))) a).trans
    (Finset.sum_congr rfl fun h _ => Finset.sum_congr rfl fun g _ => Finset.sum_congr rfl fun l _ => ?_)
  have hm := mask_at g l
  pointwise
  rw [hm]
  by_cases hl : l.val % 2 = 0 ∧ l.val % 64 < 32
  · rw [if_pos hl, if_pos hl]; rfl
  · rw [if_neg hl, if_neg hl]; rfl

/-- A slot's element, where the slot's four axes are a channel, the first coordinate, and the other two packed in rows of lanes. -/
def packed (T : Fin 32 → Fin 32 → Fin 32 → EReal) (H : Fin 32) (g : Fin 8) (l : Fin 128) : EReal :=
  T H ⟨4 * g.val + l.val / 32, by omega⟩ ⟨l.val % 32, by omega⟩

theorem laneSum_eq (x : S32x32x8x128.Idx → Elt Ideal .f32) (a : Fin 32) (T : Fin 32 → Fin 32 → Fin 32 → EReal)
    (hx : ∀ (H : Fin 32) (g : Fin 8) (l : Fin 128), x (ix4 a H g l) = packed T H g l) :
    laneSum (F := Ideal) x (ix1 a) = pooled T := by
  unfold laneSum
  rw [pay8_at]
  refine Finset.sum_congr rfl fun h _ => ?_
  rw [sum_runs 8 2 rfl]
  refine Finset.sum_congr rfl fun g _ => ?_
  rw [sum_lanes]
  refine Finset.sum_congr rfl fun p _ => Finset.sum_congr rfl fun d _ => ?_
  have hp := p.isLt
  have hd := d.isLt
  rw [if_pos ⟨by show (64 * p.val + 2 * d.val) % 2 = 0; omega, by show (64 * p.val + 2 * d.val) % 64 < 32; omega⟩,
    if_neg (fun q => by have q : (64 * p.val + 2 * d.val + 1) % 2 = 0 := q.1; omega),
    if_neg (fun q => by have q : (64 * p.val + 2 * d.val + 32) % 64 < 32 := q.2; omega),
    if_neg (fun q => by have q : (64 * p.val + 2 * d.val + 33) % 2 = 0 := q.1; omega)]
  pointwise [k0_pay2, k0_pay3, ev, od]
  obtain ⟨W, hW⟩ : ∃ W : Fin 16, W.val = g.val * 2 + p.val := ⟨⟨g.val * 2 + p.val, by omega⟩, rfl⟩
  have eW : ∀ hv, (⟨g.val * 2 + p.val, hv⟩ : Fin 16) = W := fun hv => Fin.ext hW.symm
  have e0 : ∀ v : Nat, v = 2 * h.val → ∀ hv, (⟨v, hv⟩ : Fin 32) = lo h := fun v e hv => Fin.ext e
  have e1 : ∀ v : Nat, v = 1 + 2 * h.val → ∀ hv, (⟨v, hv⟩ : Fin 32) = hi h := fun v e hv => Fin.ext (e.trans (Nat.add_comm _ _))
  have r0 : ∀ (H : Fin 32) (v : Nat), v = 64 * p.val + 2 * d.val → ∀ hv, x (ix4 a H g ⟨v, hv⟩) = T H (lo W) (lo d) :=
    fun H v e hv => (hx _ _ _).trans (congrArg₂ (T H) (Fin.ext (by show 4 * g.val + v / 32 = 2 * W.val; omega))
      (Fin.ext (by show v % 32 = 2 * d.val; omega)))
  have r1 : ∀ (H : Fin 32) (v : Nat), v = 64 * p.val + 2 * d.val + 1 → ∀ hv, x (ix4 a H g ⟨v, hv⟩) = T H (lo W) (hi d) :=
    fun H v e hv => (hx _ _ _).trans (congrArg₂ (T H) (Fin.ext (by show 4 * g.val + v / 32 = 2 * W.val; omega))
      (Fin.ext (by show v % 32 = 2 * d.val + 1; omega)))
  have r2 : ∀ (H : Fin 32) (v : Nat), v = 64 * p.val + 2 * d.val + 32 → ∀ hv, x (ix4 a H g ⟨v, hv⟩) = T H (hi W) (lo d) :=
    fun H v e hv => (hx _ _ _).trans (congrArg₂ (T H) (Fin.ext (by show 4 * g.val + v / 32 = 2 * W.val + 1; omega))
      (Fin.ext (by show v % 32 = 2 * d.val; omega)))
  have r3 : ∀ (H : Fin 32) (v : Nat), v = 64 * p.val + 2 * d.val + 33 → ∀ hv, x (ix4 a H g ⟨v, hv⟩) = T H (hi W) (hi d) :=
    fun H v e hv => (hx _ _ _).trans (congrArg₂ (T H) (Fin.ext (by show 4 * g.val + v / 32 = 2 * W.val + 1; omega))
      (Fin.ext (by show v % 32 = 2 * d.val + 1; omega)))
  rw [eW, e0 _ rfl, e1 _ rfl, r0 _ _ rfl, r0 _ _ rfl, r1 _ _ rfl, r1 _ _ rfl, r2 _ _ rfl, r2 _ _ rfl, r3 _ _ rfl, r3 _ _ rfl,
    r1 _ _ (by omega), r1 _ _ (by omega), r2 _ _ (by omega), r2 _ _ (by omega), r3 _ _ (by omega), r3 _ _ (by omega)]
  unfold cell cellMax cellSum
  simp only [add_mul_eighth]
  generalize T (lo h) (lo W) (lo d) = t0, T (lo h) (lo W) (hi d) = t1, T (lo h) (hi W) (lo d) = t2, T (lo h) (hi W) (hi d) = t3,
    T (hi h) (lo W) (lo d) = t4, T (hi h) (lo W) (hi d) = t5, T (hi h) (hi W) (lo d) = t6, T (hi h) (hi W) (hi d) = t7
  ac_rfl

end Cert.Proof.Value

end
-- ==== Proof.Value.Result.lean ====
/-
  The kernel's result after the run, at an element of the argument arrays.
-/
module

public import proofs.«01_k».proof.Proof.Ideal.Run
public import proofs.«01_k».proof.Proof.Value.LaneSum
public import Idealize.ShloMosaic.Lib.Pipeline.ValueKit
public import Idealize.ShloMosaic.Lib.Claim

@[expose] public section

set_option maxRecDepth 16384

noncomputable section

namespace Cert.Proof.Value

open Cert.KernelIdeal Cert.KernelIdeal.Gen Cert.Proof.IdealRun
open Idealize.ShloMosaic Idealize.ShloMosaic.TcCoe Idealize.SL.Sem
open Idealize.ShloMosaic.Pipeline (Dat)

section Run

variable {F : FTy → Type} [FloatOps F] (m : (ℓ : Loc nD τ sig) → Buf (Elt F) ℓ)

/-- The packed arrays at the region's entry: the reshaped arguments. -/
theorem xv_eq (c : Dev nD) : V m c main_v0 = shapeCast S4x256x32x8x128 (m ((c.tc : Thread nD τ).loc main_arg0)) shapeCasts_S4x256x32x32x32_S4x256x32x8x128 := by
  entry_read
  rfl
theorem yv_eq (c : Dev nD) : V m c main_v1 = shapeCast S4x256x32x8x128 (m ((c.tc : Thread nD τ).loc main_arg1)) shapeCasts_S4x256x32x32x32_S4x256x32x8x128 := by
  entry_read
  rfl
theorem zv_eq (c : Dev nD) : V m c main_v2 = shapeCast S4x256x32x8x128 (m ((c.tc : Thread nD τ).loc main_arg2)) shapeCasts_S4x256x32x32x32_S4x256x32x8x128 := by
  entry_read
  rfl

/-- The one block of the result lies at the array's origin. -/
theorem idx : ∀ t : Fin cfg0.N, win0_0.index t = ![0, 0, 0] := (by decide +kernel : ∀ t : Fin grid0.N, _)

/-- The region's result array. -/
theorem out_eq (c : Dev nD) : (dats m 0 c).arrAt 0 (cfgs 0).N = outBlk m c := by
  refine (dats m 0 c).arrAt_eq_of_covers 0 _ (by decide +kernel) fun t hf y => ?_
  blk_simp
  rw [after_w0]
  blk_ext [idx t]

/-- The result: the region's array, flattened. -/
theorem result_eq (c : Dev nD) : endV m c main_v4 = shapeCast S4x256 (outBlk m c) shapeCasts_S4x8x32_S4x256 := by
  unfold endV Pipeline.afterTail₀
  have hA : Pipeline.withArrays (cfgs 0).spec c (V0 m c) (fun w => (dats m 0 c).arrAt w (cfgs 0).N) (Proc.devRef .tc main_v3) = outBlk m c :=
    (Pipeline.withArrays_arr spec0 (by decide) c (V0 m c) _ 0).trans (out_eq m c)
  generalize Pipeline.withArrays (cfgs 0).spec c (V0 m c) (fun w => (dats m 0 c).arrAt w (cfgs 0).N) = W at hA ⊢
  simp only [hostOps1, List.flatten_cons, List.flatten_nil, List.append_nil]
  after_results
  exact congrArg (fun v : FVec F S4x8x32 .f32 => shapeCast S4x256 v shapeCasts_S4x8x32_S4x256) hA

end Run

/-- A chunk's slot, at an element of its array. -/
theorem chunk_at (c : Dev nD) (A : ArrM) (X : Buf (Elt Ideal) (A.view.loc (c.tc : Thread nD τ))) (b : Fin 32) (a H : Fin 32) (g : Fin 8) (l : Fin 128) :
    chunkVal c A X b (ix4 a H g l) = A.view.read (Elt Ideal) X (ix5 ⟨b.val / 8, by omega⟩ ⟨b.val % 8 * 32 + a.val, by omega⟩ H g l) := by
  refine congrArg (A.view.read (Elt Ideal) X) (funext fun k => Fin.ext ?_)
  match k with
  | ⟨0, _⟩ => show b.val / 8 + 1 * 0 = b.val / 8; omega
  | ⟨1, _⟩ => show b.val % 8 * 32 + 1 * a.val = b.val % 8 * 32 + a.val; omega
  | ⟨2, _⟩ => show 0 + 1 * H.val = H.val; omega
  | ⟨3, _⟩ => show 0 + 1 * g.val = g.val; omega
  | ⟨4, _⟩ => show 0 + 1 * l.val = l.val; omega

/-- The packed array at an element. -/
theorem packed_at (x : FVec Ideal S4x256x32x32x32 .f32) (b : Fin 4) (ch : Fin 256) (H : Fin 32) (g : Fin 8) (l : Fin 128) :
    shapeCast S4x256x32x8x128 x shapeCasts_S4x256x32x32x32_S4x256x32x8x128 (ix5 b ch H g l) = packed (fun H W D => x (ix5 b ch H W D)) H g l := by
  unfold packed
  pointwise
  exact congrArg (fun W => x (ix5 b ch H W ⟨l.val % 32, by omega⟩)) (Fin.ext (by show g.val * 4 + l.val / 32 = 4 * g.val + l.val / 32; omega))

theorem flat_at (p : FVec Ideal S4x8x32 .f32) (b : Fin 4) (ch : Fin 256) :
    shapeCast S4x256 p shapeCasts_S4x8x32_S4x256 (ix2 b ch) = p (ix3 b ⟨ch.val / 32, by omega⟩ ⟨ch.val % 32, by omega⟩) := by
  pointwise

theorem scale_at (p : FVec Ideal S4x8x32 .f32) (b : Fin 4) (i : Fin 8) (k : Fin 32) :
    k0_pay1 (F := Ideal) p (ix3 b i k)
      = Ideal.div (p (ix3 b i k)) (max (Ideal.sqrt (∑ j : Fin 8, ∑ l : Fin 32, p (ix3 b j l) * p (ix3 b j l))) floorEps) := by
  pointwise [k0_pay1]
  exact mul_div_one _ _ (lt_max_of_lt_right floorEps_pos)

/-- An array's pooled value over a chunk, by the argument: chunk `8 b + i`, channel `k` of it, is channel `32 i + k` of image `b`. -/
theorem lane_at (c : Dev nD) (A : ArrM) (X : Buf (Elt Ideal) (A.view.loc (c.tc : Thread nD τ))) (x : FVec Ideal S4x256x32x32x32 .f32)
    (hX : A.view.read (Elt Ideal) X = shapeCast S4x256x32x8x128 x shapeCasts_S4x256x32x32x32_S4x256x32x8x128) (b : Fin 4) (ch : Fin 256) :
    laneSum (chunkVal c A X (Ring.bk 32 (b.val * 8 + ch.val / 32))) (ix1 ⟨ch.val % 32, by omega⟩) = pooled (fun H W D => x (ix5 b ch H W D)) := by
  have hk : (Ring.bk 32 (b.val * 8 + ch.val / 32)).val = b.val * 8 + ch.val / 32 := Nat.mod_eq_of_lt (by omega)
  refine laneSum_eq _ _ _ fun H g l => (chunk_at c A X _ _ H g l).trans ?_
  rw [hX, ← packed_at x b ch H g l]
  refine congrArg _ (congrArg₂ (fun u v => (ix5 u v H g l : S4x256x32x8x128.Idx)) (Fin.ext ?_) (Fin.ext ?_))
  · show (Ring.bk 32 (b.val * 8 + ch.val / 32)).val / 8 = b.val
    omega
  · show (Ring.bk 32 (b.val * 8 + ch.val / 32)).val % 8 * 32 + ch.val % 32 = ch.val
    omega

/-- The rows of the kernel, before the scaling, by the arguments. -/
theorem rows_at (m : (ℓ : Loc nD τ sig) → Buf (Elt Ideal) ℓ) (c : Dev nD) (x y z : FVec Ideal S4x256x32x32x32 .f32)
    (hx : m ((c.tc : Thread nD τ).loc main_arg0) = x) (hy : m ((c.tc : Thread nD τ).loc main_arg1) = y)
    (hz : m ((c.tc : Thread nD τ).loc main_arg2) = z) (b : Fin 4) (ch : Fin 256) :
    rows c (Xv m c) (Yv m c) (Zv m c) (ix3 b ⟨ch.val / 32, by omega⟩ ⟨ch.val % 32, by omega⟩)
      = (pooled (fun H W D => x (ix5 b ch H W D)) + pooled (fun H W D => y (ix5 b ch H W D)))
            * (pooled (fun H W D => x (ix5 b ch H W D)) + pooled (fun H W D => y (ix5 b ch H W D)))
          + (pooled (fun H W D => y (ix5 b ch H W D)) + pooled (fun H W D => z (ix5 b ch H W D)))
            * (pooled (fun H W D => y (ix5 b ch H W D)) + pooled (fun H W D => z (ix5 b ch H W D)))
          + (pooled (fun H W D => x (ix5 b ch H W D)) + pooled (fun H W D => z (ix5 b ch H W D)))
            * (pooled (fun H W D => x (ix5 b ch H W D)) + pooled (fun H W D => z (ix5 b ch H W D))) := by
  subst hx hy hz
  rw [← lane_at c xM (Xv m c) _ (xv_eq m c) b ch, ← lane_at c yM (Yv m c) _ (yv_eq m c) b ch, ← lane_at c zM (Zv m c) _ (zv_eq m c) b ch]
  have hch : chan (ix3 b ⟨ch.val / 32, by omega⟩ ⟨ch.val % 32, by omega⟩) = (ix1 ⟨ch.val % 32, by omega⟩ : S32.Idx) := by
    funext a
    match a with
    | ⟨0, _⟩ => rfl
  exact congrArg (poolAt c (Xv m c) (Yv m c) (Zv m c) (Ring.bk 32 (b.val * 8 + ch.val / 32))) hch

end Cert.Proof.Value

end
-- ==== Proof.Value.RefTerm.lean ====
/-
  The reference's side: its result's term cut into the pooling of one array, the squared pairwise sums, and the rows' scaling.
-/
module

public import proofs.«01_k».proof.Proof.Gen.ReferenceIdeal.Run
public import proofs.«01_k».proof.Proof.Value.Cells

@[expose] public section

set_option maxRecDepth 16384

noncomputable section

namespace Cert.Proof.Value

open Cert.ReferenceIdeal Cert.ReferenceIdeal.Gen
open Idealize.ShloMosaic Idealize.ShloMosaic.TcCoe

variable {F : FTy → Type} [FloatOps F]

/-- The window maxima and the window sums of one array, and the cells' values: the maximum and the sum over eight, added. -/
def winMax (x : FVec F S4x256x32x32x32 .f32) : FVec F S4x256x16x16x16 .f32 :=
  Host.reduceWindow FloatOps.maximumf ![1, 1, 2, 2, 2] ![1, 1, 2, 2, 2] ![0, 0, 0, 0, 0] ![0, 0, 0, 0, 0] x
    (broadcastInDim S_ ![] bcast_S_S_ (constant S_ .f32 0xFF800000#32))
    reduceWindows_S4x256x32x32x32_S4x256x16x16x16_w1s1p0_0_w1s1p0_0_w2s2p0_0_w2s2p0_0_w2s2p0_0 h_S_
def winSum (x : FVec F S4x256x32x32x32 .f32) : FVec F S4x256x16x16x16 .f32 :=
  Host.reduceWindowAdd ![1, 1, 2, 2, 2] ![1, 1, 2, 2, 2] ![0, 0, 0, 0, 0] ![0, 0, 0, 0, 0] x
    (broadcastInDim S_ ![] bcast_S_S_ (constant S_ .f32 0x00000000#32))
    reduceWindows_S4x256x32x32x32_S4x256x16x16x16_w1s1p0_0_w1s1p0_0_w2s2p0_0_w2s2p0_0_w2s2p0_0 h_S_
def refCells (x : FVec F S4x256x32x32x32 .f32) : FVec F S4x256x4096 .f32 :=
  shapeCast _ (addf (winMax x) (Host.divf (winSum x)
    (broadcastInDim S4x256x16x16x16 ![] bcast_S_S4x256x16x16x16 (constant S_ .f32 0x41000000#32)))) shapeCasts_S4x256x16x16x16_S4x256x4096

/-- Two arrays' pooled values, summed along the cells. -/
def refPair (x y : FVec F S4x256x32x32x32 .f32) : FVec F S4x256 .f32 :=
  Host.reduceAdd (addf (refCells x) (refCells y)) (constant S_ .f32 0x00000000#32) reducesTo_S4x256x4096_S4x256_d2 h_S_

/-- The squared pairwise sums added, before the scaling; and the scaling of the rows. -/
def refRows (x y z : FVec F S4x256x32x32x32 .f32) : FVec F S4x256 .f32 :=
  addf (addf (mulf (refPair x y) (refPair x y)) (mulf (refPair y z) (refPair y z))) (mulf (refPair x z) (refPair x z))
def refScale (p : FVec F S4x256 .f32) : FVec F S4x256 .f32 :=
  Host.divf p (broadcastInDim S4x256 ![0, 1] bcast_S4x1_S4x256_0_1
    (maximumf (Host.sqrt (broadcastInDim S4x1 ![0] bcast_S4_S4x1_0
      (Host.reduceAdd (mulf p p) (constant S_ .f32 0x00000000#32) reducesTo_S4x256_S4_d1 h_S_)))
      (broadcastInDim S4x1 ![] bcast_S_S4x1 (constant S_ .f32 0x2B8CBCCC#32))))

theorem res_eq (m : (ℓ : Loc nD τ sig) → Buf (Elt F) ℓ) (c : Dev nD) :
    Cert.ReferenceIdeal.Value.res_main_v39 m c
      = refScale (refRows (m ((c.tc : Thread nD τ).loc main_arg0)) (m ((c.tc : Thread nD τ).loc main_arg1)) (m ((c.tc : Thread nD τ).loc main_arg2))) := by
  unfold Cert.ReferenceIdeal.Value.res_main_v39
  rfl

end Cert.Proof.Value

end
-- ==== Proof.Value.RefPool.lean ====
/-
  The reference's side, read at an element over the extended reals: the cells of a channel sum to its pooled value.
-/
module

public import proofs.«01_k».proof.Proof.Value.RefTerm

@[expose] public section

set_option maxRecDepth 16384

noncomputable section

namespace Cert.Proof.Value

open Cert.ReferenceIdeal Cert.ReferenceIdeal.Gen
open Idealize.ShloMosaic Idealize.ShloMosaic.TcCoe

theorem refScale_at (p : FVec Ideal S4x256 .f32) (b : Fin 4) (ch : Fin 256) :
    refScale p (ix2 b ch) = Ideal.div (p (ix2 b ch)) (max (Ideal.sqrt (∑ k : Fin 256, p (ix2 b k) * p (ix2 b k))) floorEps) := by
  pointwise [refScale]
  rfl

theorem refPair_at (x y : FVec Ideal S4x256x32x32x32 .f32) (b : Fin 4) (ch : Fin 256) :
    refPair x y (ix2 b ch) = (∑ n : Fin 4096, refCells x (ix3 b ch n)) + ∑ n : Fin 4096, refCells y (ix3 b ch n) := by
  pointwise [refPair]
  exact Finset.sum_add_distrib

/-- A window's place `n` of eight. -/
abbrev winShape : Shape := ⟨5, ![1, 1, 2, 2, 2]⟩

theorem place : ∀ n : Fin winShape.numel, (winShape.rowMajor.symm n 0).val = 0 ∧ (winShape.rowMajor.symm n 1).val = 0
    ∧ (winShape.rowMajor.symm n 2).val = n.val / 4 ∧ (winShape.rowMajor.symm n 3).val = n.val / 2 % 2 ∧ (winShape.rowMajor.symm n 4).val = n.val % 2 := by
  decide +kernel

/-- The fold over a window's places, written out. -/
theorem window_at (f : EReal → EReal → EReal) (e : EReal) (x : S4x256x32x32x32.Idx → EReal) (init : S_.Idx → EReal) (he : init (Shape.Idx.first h_S_) = e)
    (b : Fin 4) (ch : Fin 256) (h w d : Fin 16) :
    Host.reduceWindow (t := S4x256x16x16x16) f ![1, 1, 2, 2, 2] ![1, 1, 2, 2, 2] ![0, 0, 0, 0, 0] ![0, 0, 0, 0, 0] x init
        reduceWindows_S4x256x32x32x32_S4x256x16x16x16_w1s1p0_0_w1s1p0_0_w2s2p0_0_w2s2p0_0_w2s2p0_0 h_S_ (ix5 b ch h w d)
      = f (f (f (f (f (f (f (f e (x (ix5 b ch (lo h) (lo w) (lo d)))) (x (ix5 b ch (lo h) (lo w) (hi d))))
          (x (ix5 b ch (lo h) (hi w) (lo d)))) (x (ix5 b ch (lo h) (hi w) (hi d))))
          (x (ix5 b ch (hi h) (lo w) (lo d)))) (x (ix5 b ch (hi h) (lo w) (hi d))))
          (x (ix5 b ch (hi h) (hi w) (lo d)))) (x (ix5 b ch (hi h) (hi w) (hi d))) := by
  subst he
  let q : Fin winShape.numel → S4x256x32x32x32.Idx := fun n => ix5 b ch ⟨2 * h.val + n.val / 4, by have : n.val < 8 := n.isLt; omega⟩
    ⟨2 * w.val + n.val / 2 % 2, by omega⟩ ⟨2 * d.val + n.val % 2, by omega⟩
  refine (List.foldl_ext _ (fun r n => f r (x (q n))) _ (fun r n _ => congrArg (f r) ?_)).trans ?_
  · obtain ⟨h0, h1, h2, h3, h4⟩ := place n
    have hn : n.val < 8 := n.isLt
    have hp : ∀ a : Fin 5, (ix5 b ch h w d a).val * (![1, 1, 2, 2, 2] : Fin 5 → Nat) a + (winShape.rowMajor.symm n a).val = (q n a).val := fun a => by
      match a with
      | ⟨0, _⟩ => show b.val * 1 + (winShape.rowMajor.symm n 0).val = b.val; omega
      | ⟨1, _⟩ => show ch.val * 1 + (winShape.rowMajor.symm n 1).val = ch.val; omega
      | ⟨2, _⟩ => show h.val * 2 + (winShape.rowMajor.symm n 2).val = 2 * h.val + n.val / 4; omega
      | ⟨3, _⟩ => show w.val * 2 + (winShape.rowMajor.symm n 3).val = 2 * w.val + n.val / 2 % 2; omega
      | ⟨4, _⟩ => show d.val * 2 + (winShape.rowMajor.symm n 4).val = 2 * d.val + n.val % 2; omega
    have hz : ∀ a : Fin 5, (![0, 0, 0, 0, 0] : Fin 5 → Nat) a = 0 := by decide
    refine (dif_pos fun a => ⟨?_, ?_⟩).trans (congrArg x (funext fun a => Fin.ext ?_))
    · exact (congrArg₂ (· - ·) (hp a) (hz a)).trans (Nat.sub_zero _)
    · exact (hz a).le.trans (Nat.zero_le _)
    · exact lt_of_eq_of_lt ((congrArg₂ (· - ·) (hp a) (hz a)).trans (Nat.sub_zero _)) (q n a).isLt
  · rfl

theorem winMax_at (x : FVec Ideal S4x256x32x32x32 .f32) (b : Fin 4) (ch : Fin 256) (h w d : Fin 16) :
    winMax x (ix5 b ch h w d) = cellMax (fun H W D => x (ix5 b ch H W D)) h w d := by
  refine (window_at max ⊥ x _ negInf_word b ch h w d).trans ?_
  unfold cellMax
  rw [max_eq_right bot_le]
  simp only [max_assoc]

theorem winSum_at (x : FVec Ideal S4x256x32x32x32 .f32) (b : Fin 4) (ch : Fin 256) (h w d : Fin 16) :
    winSum x (ix5 b ch h w d) = cellSum (fun H W D => x (ix5 b ch H W D)) h w d := by
  refine (window_at (· + ·) (Ideal.ofBits .f32 0x00000000#32) x (fun _ => Ideal.ofBits .f32 0x00000000#32) rfl b ch h w d).trans ?_
  unfold cellSum
  simp only [Ideal.ofBits_zero_f32, zero_add, add_assoc]

end Cert.Proof.Value

end
-- ==== Proof.Value.RefSum.lean ====
/-
  The reference's side, its cells summed: a channel's pooled value.
-/
module

public import proofs.«01_k».proof.Proof.Value.RefPool

@[expose] public section

set_option maxRecDepth 16384

noncomputable section

namespace Cert.Proof.Value

open Cert.ReferenceIdeal Cert.ReferenceIdeal.Gen
open Idealize.ShloMosaic Idealize.ShloMosaic.TcCoe

theorem refCells_at (x : FVec Ideal S4x256x32x32x32 .f32) (b : Fin 4) (ch : Fin 256) (n : Fin 4096) :
    refCells x (ix3 b ch n) = cell (fun H W D => x (ix5 b ch H W D)) ⟨n.val / 256, by omega⟩ ⟨n.val / 16 % 16, by omega⟩ ⟨n.val % 16, by omega⟩ := by
  pointwise [refCells]
  rw [winMax_at, winSum_at]
  exact congrArg (_ + ·) (div_eight _)

/-- The channel's pooled value. -/
theorem refCells_sum (x : FVec Ideal S4x256x32x32x32 .f32) (b : Fin 4) (ch : Fin 256) :
    ∑ n : Fin 4096, refCells x (ix3 b ch n) = pooled (fun H W D => x (ix5 b ch H W D)) := by
  rw [sum_runs 16 256 rfl]
  refine Finset.sum_congr rfl fun h _ => ?_
  rw [sum_runs 16 16 rfl]
  refine Finset.sum_congr rfl fun w _ => Finset.sum_congr rfl fun d _ => ?_
  have hw := w.isLt
  have hd := d.isLt
  refine (refCells_at x b ch _).trans ?_
  congr 1 <;> (apply Fin.ext; simp only; omega)

/-- The rows before the scaling. -/
theorem refRows_at (x y z : FVec Ideal S4x256x32x32x32 .f32) (b : Fin 4) (ch : Fin 256) :
    refRows x y z (ix2 b ch)
      = (pooled (fun H W D => x (ix5 b ch H W D)) + pooled (fun H W D => y (ix5 b ch H W D)))
            * (pooled (fun H W D => x (ix5 b ch H W D)) + pooled (fun H W D => y (ix5 b ch H W D)))
          + (pooled (fun H W D => y (ix5 b ch H W D)) + pooled (fun H W D => z (ix5 b ch H W D)))
            * (pooled (fun H W D => y (ix5 b ch H W D)) + pooled (fun H W D => z (ix5 b ch H W D)))
          + (pooled (fun H W D => x (ix5 b ch H W D)) + pooled (fun H W D => z (ix5 b ch H W D)))
            * (pooled (fun H W D => x (ix5 b ch H W D)) + pooled (fun H W D => z (ix5 b ch H W D))) := by
  simp only [← refCells_sum]
  simp only [← refPair_at]
  rfl

end Cert.Proof.Value

end
-- ==== Proof.Value.Tie.lean ====
/-
  The kernel's result array is the reference's: the same rows, and the same scaling of a row, its sum of squares taken over
  8 × 32 channels on the one side and over 256 on the other.
-/
module

public import proofs.«01_k».proof.Proof.Value.Result
public import proofs.«01_k».proof.Proof.Value.RefSum

@[expose] public section

set_option maxRecDepth 16384

noncomputable section

namespace Cert.Proof.Value

open Cert.KernelIdeal Cert.KernelIdeal.Gen Cert.Proof.IdealRun
open Idealize.ShloMosaic Idealize.ShloMosaic.TcCoe Idealize.SL.Sem

/-- The kernel's rows are the reference's. -/
theorem rows_eq (m : (ℓ : Loc nD τ sig) → Buf (Elt Ideal) ℓ) (c : Dev nD) (x y z : FVec Ideal S4x256x32x32x32 .f32)
    (hx : m ((c.tc : Thread nD τ).loc main_arg0) = x) (hy : m ((c.tc : Thread nD τ).loc main_arg1) = y)
    (hz : m ((c.tc : Thread nD τ).loc main_arg2) = z) (b : Fin 4) (ch : Fin 256) :
    rows c (Xv m c) (Yv m c) (Zv m c) (ix3 b ⟨ch.val / 32, by omega⟩ ⟨ch.val % 32, by omega⟩) = refRows x y z (ix2 b ch) :=
  (rows_at m c x y z hx hy hz b ch).trans (refRows_at x y z b ch).symm

/-- Scaling 8 × 32 channels of an image is scaling its 256. -/
theorem scale_eq (p : FVec Ideal S4x8x32 .f32) (q : FVec Ideal S4x256 .f32)
    (h : ∀ (b : Fin 4) (ch : Fin 256), p (ix3 b ⟨ch.val / 32, by omega⟩ ⟨ch.val % 32, by omega⟩) = q (ix2 b ch)) :
    shapeCast S4x256 (k0_pay1 (F := Ideal) p) shapeCasts_S4x8x32_S4x256 = refScale q := by
  funext j
  obtain ⟨b, ch, rfl⟩ : ∃ (b : Fin 4) (ch : Fin 256), (ix2 b ch : S4x256.Idx) = j := ⟨j 0, j 1, (eq_ix2 j).symm⟩
  have hs : ∑ i : Fin 8, ∑ l : Fin 32, p (ix3 b i l) * p (ix3 b i l) = ∑ k : Fin 256, q (ix2 b k) * q (ix2 b k) := by
    rw [sum_runs 8 32 rfl (fun k : Fin 256 => q (ix2 b k) * q (ix2 b k))]
    refine Finset.sum_congr rfl fun i _ => Finset.sum_congr rfl fun l _ => ?_
    have hl := l.isLt
    have e := h b ⟨i.val * 32 + l.val, by omega⟩
    have e' : p (ix3 b i l) = q (ix2 b ⟨i.val * 32 + l.val, by omega⟩) := by
      rw [← e]
      refine congrArg₂ (fun u v => p (ix3 b u v)) (Fin.ext ?_) (Fin.ext ?_)
      · show i.val = (i.val * 32 + l.val) / 32; omega
      · show l.val = (i.val * 32 + l.val) % 32; omega
    rw [e']
  rw [refScale_at, ← hs, ← h b ch]
  exact (flat_at _ b ch).trans (scale_at p b _ _)

/-- The two programs' results, from arguments that agree. -/
theorem result_tie (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2)) :
    Cert.ReferenceIdeal.Value.res_main_v39 m' c = endV m c main_v4 := by
  rw [res_eq, h0, h1, h2]
  exact ((result_eq m c).trans (scale_eq _ _ fun b ch => rows_eq m c _ _ _ rfl rfl rfl b ch)).symm

/-- Every result of the two programs is the same array, from arguments that agree. -/
theorem algebraic : Cert.algebraic_KernelIdeal_ReferenceIdeal := fun m g m' g' _ hag =>
  ⟨fun c => endV m c main_v4,
    (θ_run defs _ _).mono (fun _ h => h.1) (run_values m g),
    (θ_run Cert.ReferenceIdeal.defs _ _).mono
      (fun _ h c => ⟨(h c).1.trans (result_tie m m' c (hag c).1 (hag c).2.1 (hag c).2.2), (h c).2⟩) (Cert.ReferenceIdeal.Value.run m' g')⟩

end Cert.Proof.Value

end
-- ==== Proof.lean ====
/-
  The proof of `Cert.Claim`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Bits
public import proofs.«01_k».proof.Proof.RefFrame
public import proofs.«01_k».proof.Proof.Value.Tie

@[expose] public section

namespace Cert.Proof

theorem claim : Cert.Claim :=
  ⟨Cert.Kernel.Gen.facts, Cert.KernelIdeal.Gen.facts, Cert.ReferenceIdeal.Gen.facts, frame_Kernel, frame_KernelIdeal, frame_ReferenceIdeal, trivial,
    Value.algebraic⟩

end Cert.Proof

end
